-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1 : Shape := ⟨1, ![1]⟩
abbrev S1024x1024 : Shape := ⟨2, ![1024, 1024]⟩
abbrev S3x1024x1024 : Shape := ⟨3, ![3, 1024, 1024]⟩
abbrev S_ : Shape := ⟨0, ![]⟩
abbrev S3 : Shape := ⟨1, ![3]⟩
abbrev S1x1024x1024 : Shape := ⟨3, ![1, 1024, 1024]⟩

abbrev nBuf : Space → Nat
  | .hbm => 5
  | .vmem => 7
  | .smem => 2
  | _ => 0

abbrev bufTy : (tb : Table) → Fin (tcTables nBuf tb) → BufTy
  | .hbm, ⟨0, _⟩ => ⟨S4096x1024, .fp8e4m3⟩
  | .hbm, ⟨1, _⟩ => ⟨S1024x8192, .fp8e5m2⟩
  | .hbm, ⟨2, _⟩ => ⟨S1, .f32⟩
  | .hbm, ⟨3, _⟩ => ⟨S1, .f32⟩
  | .hbm, ⟨4, _⟩ => ⟨S1024x8192, .f32⟩
  | .local _ .vmem, ⟨0, _⟩ => ⟨S4096x1024, .fp8e4m3⟩
  | .local _ .vmem, ⟨1, _⟩ => ⟨S1024x1024, .fp8e5m2⟩
  | .local _ .vmem, ⟨2, _⟩ => ⟨S1024x1024, .fp8e5m2⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S3x1024x1024, .bf16⟩
  | .local _ .smem, ⟨0, _⟩ => ⟨S1, .f32⟩
  | .local _ .smem, ⟨1, _⟩ => ⟨S1, .f32⟩
  | _, _ => ⟨S4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 2 → Bool
  | ⟨0, _⟩ => true
  | ⟨1, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 2 11 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc0_scratch1 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev barrier0 : Sem sig := 1

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_14 : BitVec 32 := 0#32
  let v27 : BitVec 1 := Scalar.cmpi .eq arg0 c0_i32_14
  let v28 : BitVec 32 := Scalar.extui v27
  let c0_i32_15 : BitVec 32 := 0#32
  let v29 : BitVec 1 := Scalar.cmpi .ne v28 c0_i32_15
  v29

def k0_dev1 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_143 : BitVec 32 := 1#32
  let v205 : BitVec 32 := Scalar.muli v14 c1_i32_143
  let v206 : BitVec 32 := Scalar.addi c0_i32_144 v205
  v206.toNat
def k0_dev2 (d0 : Dev nD) : Nat :=
  let c0_i32_147 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_146 : BitVec 32 := 1#32
  let v207 : BitVec 32 := Scalar.muli v25 c1_i32_146
  let v208 : BitVec 32 := Scalar.addi c0_i32_147 v207
  v208.toNat
def k0_off1 (d0 : Dev nD) (c0_i32_18 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_16 : BitVec 32 := 4#32
  let v30 : BitVec 32 := Scalar.addi v2 c4_i32_16
  let c1_i32_17 : BitVec 32 := 1#32
  let v31 : BitVec 32 := Scalar.subi v30 c1_i32_17
  let v32 : BitVec 32 := Scalar.subi v31 c0_i32_18
  let c4_i32_19 : BitVec 32 := 4#32
  let c0_i32_20 : BitVec 32 := 0#32
  let v33 : BitVec 1 := Scalar.cmpi .eq c4_i32_19 c0_i32_20
  let c1_i32_21 : BitVec 32 := 1#32
  let v34 : BitVec 32 := Scalar.select v33 c1_i32_21 c4_i32_19
  let v35 : BitVec 32 := Scalar.remsi v32 v34
  let c0_i32_23 : BitVec 32 := 0#32
  let v37 : BitVec 1 := Scalar.cmpi .slt v35 c0_i32_23
  let c0_i32_24 : BitVec 32 := 0#32
  let v38 : BitVec 1 := Scalar.cmpi .slt v34 c0_i32_24
  let v39 : BitVec 1 := Scalar.xori v37 v38
  let c0_i32_22 : BitVec 32 := 0#32
  let v36 : BitVec 1 := Scalar.cmpi .ne v35 c0_i32_22
  let v40 : BitVec 1 := Scalar.andi v39 v36
  let v41 : BitVec 32 := Scalar.addi v35 v34
  let v42 : BitVec 32 := Scalar.select v40 v41 v35
  let c1024_i32 : BitVec 32 := 1024#32
  let v43 : BitVec 32 := Scalar.muli v42 c1024_i32
  let v44 : Index := Scalar.indexCast v43
  let c0 : Index := 0#32
  ![v44.toNat, 0]
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_33 : BitVec 32 := 1#32
  let v59 : BitVec 32 := Scalar.muli v25 c1_i32_33
  let v60 : BitVec 32 := Scalar.addi c0_i32_34 v59
  v60.toNat
def k0_cond3 (i : grid0.Coords) : BitVec 1 :=
  let arg0 : BitVec 32 := BitVec.ofNat 32 (i 0).val
  let c6_i32 : BitVec 32 := 6#32
  let v103 : BitVec 1 := Scalar.cmpi .sle arg0 c6_i32
  let v104 : BitVec 32 := Scalar.extui v103
  let c0_i32_67 : BitVec 32 := 0#32
  let v105 : BitVec 1 := Scalar.cmpi .ne v104 c0_i32_67
  v105

def k0_dev4 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_143 : BitVec 32 := 1#32
  let v205 : BitVec 32 := Scalar.muli v14 c1_i32_143
  let v206 : BitVec 32 := Scalar.addi c0_i32_144 v205
  v206.toNat
def k0_dev5 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_72 : BitVec 32 := 1#32
  let v109 : BitVec 32 := Scalar.muli v25 c1_i32_72
  let v110 : BitVec 32 := Scalar.addi c0_i32_73 v109
  v110.toNat
def k0_cond5 (i : grid0.Coords) : BitVec 1 :=
  let arg0 : BitVec 32 := BitVec.ofNat 32 (i 0).val
  let c6_i32_104 : BitVec 32 := 6#32
  let v153 : BitVec 1 := Scalar.cmpi .sle arg0 c6_i32_104
  let v154 : BitVec 32 := Scalar.extui v153
  let c0_i32_105 : BitVec 32 := 0#32
  let v155 : BitVec 1 := Scalar.cmpi .ne v154 c0_i32_105
  v155

def k0_dev6 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_143 : BitVec 32 := 1#32
  let v205 : BitVec 32 := Scalar.muli v14 c1_i32_143
  let v206 : BitVec 32 := Scalar.addi c0_i32_144 v205
  v206.toNat
def k0_dev7 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_110 : BitVec 32 := 1#32
  let v159 : BitVec 32 := Scalar.muli v25 c1_i32_110
  let v160 : BitVec 32 := Scalar.addi c0_i32_111 v159
  v160.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_125 : BitVec 32 := 1024#32
  let v173 : BitVec 32 := Scalar.muli v2 c1024_i32_125
  let v174 : Index := Scalar.indexCast v173
  let c0_126 : Index := 0#32
  ![v174.toNat, 0]
def k0_cond7 (i : grid0.Coords) : BitVec 1 :=
  let arg0 : BitVec 32 := BitVec.ofNat 32 (i 0).val
  let c6_i32_132 : BitVec 32 := 6#32
  let v186 : BitVec 1 := Scalar.cmpi .sle arg0 c6_i32_132
  let v187 : BitVec 32 := Scalar.extui v186
  let c0_i32_133 : BitVec 32 := 0#32
  let v188 : BitVec 1 := Scalar.cmpi .ne v187 c0_i32_133
  v188

def k0_dev8 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_143 : BitVec 32 := 1#32
  let v205 : BitVec 32 := Scalar.muli v14 c1_i32_143
  let v206 : BitVec 32 := Scalar.addi c0_i32_144 v205
  v206.toNat
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x8192 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Proto.lean ====
/-
  The protocol of the ring kernel, written down once for all devices.

  Device `c` passes a partial sum to its right neighbour `nxt c` three times per grid point and takes one from its
  left neighbour `prv c` three times; the transfer of hop `h` lands in slot `h` of the receive buffer. Numbering the
  hops of the whole grid, hop `h` of point `t` is number `3 t + h`. The semaphores of a device:

  * the entry barrier: one unit from each neighbour, once, before the first transfer; the right neighbour's unit
    says that its three slots are free;
  * the send semaphore: one transfer's credit per hop, by the device's own transfer leaving;
  * the receive semaphore of slot `h`: one transfer's credit per grid point, by the left neighbour's transfer landing
    with the left neighbour's partial sum of that hop;
  * the credit semaphore: 21 units from the right neighbour, unit number `n` after it has read its slot `n % 3` for
    the hop number `n`; a device waits for one unit before each transfer from the second grid point on.

  A slot travels from its reader back to its writer through an invariant per slot (`Release`): the reader deposits
  it, and only the persistent count of the deposits rides the credit. This file has the algebra, the cells, the
  schedule with what each unit carries, and what a device owes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The resource algebra: the pipeline library's, the rounds' (duties numbered), the slots' -/

abbrev UB : Type := URounds (GSem nD τ sig) ℕ
abbrev UK : Type := USlots (Dev nD × Fin 3)
abbrev UU : Type := UR sig nD τ × (UB × UK)

local notation "𝕄" => MT nD τ sig ℕ (Elt F) ℕ UU ℕ

abbrev EP : Emb (UR sig nD τ) (MT nD τ sig ℕ (Elt F) ℕ UU ℕ) := embL
abbrev EBK : Emb (UB × UK) (MT nD τ sig ℕ (Elt F) ℕ UU ℕ) := embR
abbrev ER : Emb UB (MT nD τ sig ℕ (Elt F) ℕ UU ℕ) := (Emb.inl : Emb UB (UB × UK)).trans EBK
abbrev EK : Emb UK (MT nD τ sig ℕ (Elt F) ℕ UU ℕ) := (Emb.inr : Emb UK (UB × UK)).trans EBK

/-! ## The ring -/

set_option backward.proofsInPublic true in
/-- the right neighbour -/
def nxt (c : Dev nD) : Dev nD := ⟨(c.val + 1) % 4, Nat.mod_lt _ (by decide)⟩
set_option backward.proofsInPublic true in
/-- the left neighbour -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-! ## The memrefs and the cells -/

abbrev sendM : Memref sig .tc .vmem S1024x1024 .bf16 := Memref.whole cc0_scratch0
abbrev recvM : Memref sig .tc .vmem S3x1024x1024 .bf16 := Memref.whole cc0_scratch1

/-- the rectangle of slot `h` in the receive buffer -/
abbrev slotR : Fin 3 → Rect S3x1024x1024
  | 0 => Rect.unit (s := S3x1024x1024) ![0, 0, 0] S1x1024x1024.size inb_S3x1024x1024_S1x1024x1024_0_0_0
  | 1 => Rect.unit (s := S3x1024x1024) ![1, 0, 0] S1x1024x1024.size inb_S3x1024x1024_S1x1024x1024_1_0_0
  | 2 => Rect.unit (s := S3x1024x1024) ![2, 0, 0] S1x1024x1024.size inb_S3x1024x1024_S1x1024x1024_2_0_0

/-- slot `h` of the receive buffer, as a transfer addresses it -/
abbrev slotM : Fin 3 → Memref sig .tc .vmem S1024x1024 .bf16
  | 0 => (recvM.slice (Rect.unit (s := S3x1024x1024) ![0, 0, 0] S1x1024x1024.size inb_S3x1024x1024_S1x1024x1024_0_0_0) (fun _ => rfl)).squeeze S1024x1024 squeezes_S1x1024x1024_S1024x1024
  | 1 => (recvM.slice (Rect.unit (s := S3x1024x1024) ![1, 0, 0] S1x1024x1024.size inb_S3x1024x1024_S1x1024x1024_1_0_0) (fun _ => rfl)).squeeze S1024x1024 squeezes_S1x1024x1024_S1024x1024
  | 2 => (recvM.slice (Rect.unit (s := S3x1024x1024) ![2, 0, 0] S1x1024x1024.size inb_S3x1024x1024_S1x1024x1024_2_0_0) (fun _ => rfl)).squeeze S1024x1024 squeezes_S1x1024x1024_S1024x1024

abbrev barS : Sem sig := (SemArray.scalar (sig.barrier 0 rfl) : Sems sig S_).sem
abbrev sendS : DmaSem sig := (cc0_scratch2 : DmaSems sig S_).sem
abbrev recvS : Fin 3 → DmaSem sig
  | 0 => (((cc0_scratch3 : DmaSems sig S3).slice (Rect.unit (s := S3) ![0] S1.size inb_S3_S1_0)).squeeze S_ squeezes_S1_S_).sem
  | 1 => (((cc0_scratch3 : DmaSems sig S3).slice (Rect.unit (s := S3) ![1] S1.size inb_S3_S1_1)).squeeze S_ squeezes_S1_S_).sem
  | 2 => (((cc0_scratch3 : DmaSems sig S3).slice (Rect.unit (s := S3) ![2] S1.size inb_S3_S1_2)).squeeze S_ squeezes_S1_S_).sem
abbrev credS : Sem sig := (cc0_scratch4 : Sems sig S_).sem

/-- The semaphores of the protocol, by what they are for. -/
inductive Role
  | bar | send | recv (h : Fin 3) | cred
  deriving DecidableEq

instance : Fintype Role := ⟨{.bar, .send, .recv 0, .recv 1, .recv 2, .cred}, fun x => by
  cases x with
  | bar => decide
  | send => decide
  | recv h => revert h; decide
  | cred => decide⟩

abbrev csem : Role → SemLoc sig
  | .bar => .reg barS
  | .send => .dma sendS
  | .recv h => .dma (recvS h)
  | .cred => .reg credS

abbrev kcell (ck : Dev nD × Role) : GSem nD τ sig := ((ck.1 : Thread nD τ), csem ck.2)
abbrev barCell (c : Dev nD) : GSem nD τ sig := kcell (c, .bar)
abbrev sendCell (c : Dev nD) : GSem nD τ sig := kcell (c, .send)
abbrev recvCell (c : Dev nD) (h : Fin 3) : GSem nD τ sig := kcell (c, .recv h)
abbrev credCell (c : Dev nD) : GSem nD τ sig := kcell (c, .cred)

theorem csem_inj : Function.Injective csem := by
  intro a b; revert a b; decide

/-- which semaphore of the protocol a semaphore is, if any -/
def roleSem (sm : SemLoc sig) : Option Role :=
  if sm = csem .bar then some .bar else if sm = csem .send then some .send
  else if sm = csem (.recv 0) then some (.recv 0) else if sm = csem (.recv 1) then some (.recv 1)
  else if sm = csem (.recv 2) then some (.recv 2) else if sm = csem .cred then some .cred else none

theorem roleSem_csem : ∀ k : Role, roleSem (csem k) = some k := by decide

/-- and a cell -/
def roleOf (g : GSem nD τ sig) : Option Role := if g.1.2 = .tc then roleSem g.2 else none

theorem roleOf_kcell (c : Dev nD) (k : Role) : roleOf (kcell (c, k)) = some k := (if_pos rfl).trans (roleSem_csem k)

/-- one transfer's credit -/
abbrev N : ℕ := (slotM 0).view.dmaCredit
theorem N_pos : 0 < N := View.dmaCredit_pos _ (by decide)
theorem slot_credit (h : Fin 3) : (slotM h).view.dmaCredit = N := by
  revert h; rw [Fin.forall_fin_succ, Fin.forall_fin_succ, Fin.forall_fin_succ]; exact ⟨rfl, rfl, rfl, fun h => h.elim0⟩
theorem send_credit : sendM.view.dmaCredit = N := rfl

/-! ## The schedule -/

/-- how many of the first `k` credits are for slot `h` -/
def cnt (k : ℕ) (h : Fin 3) : ℕ := (k + 2 - h.val) / 3

/-- What device `d` has told after `k` credits: how often each of its slots has been given back, and the round it is
    waiting for there. -/
def rel (d : Dev nD) (k : ℕ) : sProp 𝕄 :=
  bigSep Finset.univ fun h : Fin 3 => iprop(released EK (d, h) (cnt k h + 1) ∗ reached ER (recvCell d h) (cnt k h))

instance rel_persistent (d : Dev nD) (k : ℕ) : BI.Persistent (rel (F := F) d k) := by unfold rel; infer_instance
instance rel_storable (d : Dev nD) (k : ℕ) : BI.Storable (upEmb : UEmb _ 𝕄) (rel (F := F) d k) := by unfold rel; infer_instance

def dutiesR : Role → ℕ → Finset ℕ
  | .bar, r => if r = 0 then {0, 1} else ∅
  | .send, r => if r < 24 then {0} else ∅
  | .recv _, r => if r < 8 then {0} else ∅
  | .cred, r => if r = 0 then Finset.range 21 else ∅

def amountR : Role → ℕ
  | .bar => 1
  | .send => N
  | .recv _ => N
  | .cred => 1

variable (Sv : Dev nD → ℕ → FVec F S1024x1024 .bf16)

/-- What a unit carries: `Sv c n` is the partial sum device `c` sends at hop number `n`. -/
def payR (c : Dev nD) : Role → ℕ → ℕ → sProp 𝕄
  | .bar, _, d => if d = 1 then rel (nxt c) 0 else iprop(emp)
  | .send, _, _ => iprop(∃ V, owns (c : Thread nD τ) sendM fullShare V)
  | .recv h, r, _ => owns (c : Thread nD τ) (slotM h) fullShare (Sv (prv c) (3 * r + h.val))
  | .cred, _, d => rel (nxt c) (d + 1)

instance payR_storable (c : Dev nD) (k : Role) (r d : ℕ) : BI.Storable (upEmb : UEmb _ 𝕄) (payR Sv c k r d) := by
  cases k <;> simp only [payR]
  · split <;> infer_instance
  all_goals infer_instance

def ringRd : Rounds.Schedule (GSem nD τ sig) ℕ 𝕄 where
  duties g r := match roleOf g with | some k => dutiesR k r | none => ∅
  unitless _ := False
  amount g _ _ := match roleOf g with | some k => amountR k | none => 1
  payload g r d := match roleOf g with | some k => payR Sv g.1.1 k r d | none => iprop(emp)
  amount_pos g _ _ _ := by
    cases roleOf g with
    | none => exact Nat.one_pos
    | some k => cases k <;> first | exact Nat.one_pos | exact N_pos

instance ringRd_payload_storable (g : GSem nD τ sig) (r : ℕ) (d : ℕ) :
    BI.Storable (upEmb : UEmb _ 𝕄) ((ringRd Sv).payload g r d) := by
  show BI.Storable upEmb (match roleOf g with | some k => payR Sv g.1.1 k r d | none => iprop(emp))
  split <;> infer_instance

section Sched
variable (c : Dev nD)

theorem duties_k (k : Role) (r : ℕ) : (ringRd Sv).duties (kcell (c, k)) r = dutiesR k r := by
  show (match roleOf (kcell (c, k)) with | some k => dutiesR k r | none => ∅) = _
  rw [roleOf_kcell]
theorem amount_k (k : Role) (r d : ℕ) : (ringRd Sv).amount (kcell (c, k)) r d = amountR k := by
  show (match roleOf (kcell (c, k)) with | some k => amountR k | none => 1) = _
  rw [roleOf_kcell]
theorem payload_k (k : Role) (r d : ℕ) : (ringRd Sv).payload (kcell (c, k)) r d = payR Sv c k r d := by
  show (match roleOf (kcell (c, k)) with | some k' => payR Sv (kcell (c, k)).1.1 k' r d | none => iprop(emp)) = _
  rw [roleOf_kcell]

theorem duties_bar : (ringRd Sv).duties (barCell c) 0 = {0, 1} := duties_k Sv c .bar 0
theorem duties_send {r : ℕ} (h : r < 24) : (ringRd Sv).duties (sendCell c) r = {0} := (duties_k Sv c .send r).trans (if_pos h)
theorem duties_recv (h : Fin 3) {r : ℕ} (hr : r < 8) : (ringRd Sv).duties (recvCell c h) r = {0} := (duties_k Sv c (.recv h) r).trans (if_pos hr)
theorem duties_cred : (ringRd Sv).duties (credCell c) 0 = Finset.range 21 := duties_k Sv c .cred 0

/-- the number of rounds of a cell -/
def lastR : Role → ℕ
  | .bar => 1
  | .send => 24
  | .recv _ => 8
  | .cred => 1

theorem duties_later (k : Role) : ∀ r, lastR k ≤ r → (ringRd Sv).duties (kcell (c, k)) r = ∅ := by
  intro r hr; rw [duties_k]
  cases k <;> simp only [lastR] at hr <;> simp only [dutiesR] <;> rw [if_neg (by omega)]

theorem expect_bar : (ringRd Sv).expect (barCell c) 0 = 2 := by
  unfold Schedule.expect Schedule.amountOf
  rw [duties_bar, Finset.sum_congr rfl fun d _ => amount_k Sv c .bar 0 d]; rfl
theorem expect_send {r : ℕ} (h : r < 24) : (ringRd Sv).expect (sendCell c) r = N := by
  unfold Schedule.expect Schedule.amountOf; rw [duties_send Sv c h, Finset.sum_singleton]; exact amount_k Sv c .send r 0
theorem expect_recv (h : Fin 3) {r : ℕ} (hr : r < 8) : (ringRd Sv).expect (recvCell c h) r = N := by
  unfold Schedule.expect Schedule.amountOf; rw [duties_recv Sv c h hr, Finset.sum_singleton]; exact amount_k Sv c (.recv h) r 0
theorem expect_cred : (ringRd Sv).expect (credCell c) 0 = 21 := by
  unfold Schedule.expect Schedule.amountOf
  rw [duties_cred, Finset.sum_congr rfl fun d _ => amount_k Sv c .cred 0 d]; rfl

theorem rest_bar : bigSep ((ringRd Sv).duties (barCell c) 0 \ ∅) (fun d => (ringRd Sv).payload (barCell c) 0 d) = iprop(emp ∗ rel (nxt c) 0) := by
  rw [Finset.sdiff_empty, duties_bar, bigSep_insert (by decide), bigSep_singleton, payload_k, payload_k]
  rfl
theorem rest_send {r : ℕ} (h : r < 24) : bigSep ((ringRd Sv).duties (sendCell c) r \ ∅) (fun d => (ringRd Sv).payload (sendCell c) r d)
    = iprop(∃ V, owns (c : Thread nD τ) sendM fullShare V) := by
  rw [Finset.sdiff_empty, duties_send Sv c h, bigSep_singleton, payload_k]; rfl
theorem rest_recv (h : Fin 3) {r : ℕ} (hr : r < 8) : bigSep ((ringRd Sv).duties (recvCell c h) r \ ∅) (fun d => (ringRd Sv).payload (recvCell c h) r d)
    = owns (c : Thread nD τ) (slotM h) fullShare (Sv (prv c) (3 * r + h.val)) := by
  rw [Finset.sdiff_empty, duties_recv Sv c h hr, bigSep_singleton, payload_k]; rfl

end Sched

/-! ## What a device owes; the levels -/

/-- the slot of hop number `i` -/
abbrev slotOf (i : ℕ) : Fin 3 := ⟨i % 3, Nat.mod_lt _ (by decide)⟩

/-- Device `c` still owes: the landings of its transfers from number `k` on, its credits from number `j` on. -/
def Ow (c : Dev nD) (k j : ℕ) : CellTallies nD τ sig ℕ :=
  (∑ i ∈ Finset.Ico k 24, tallyAt (recvCell (nxt c) (slotOf i)) i N) + ∑ i ∈ Finset.Ico j 21, tallyAt (credCell (prv c)) i 1

theorem Ico_peel {a b : ℕ} (h : a < b) : Finset.Ico a b = insert a (Finset.Ico (a + 1) b) := by
  ext x; rw [Finset.mem_insert, Finset.mem_Ico, Finset.mem_Ico]; omega
theorem Ico_peel_not_mem {a b : ℕ} : a ∉ Finset.Ico (a + 1) b := by rw [Finset.mem_Ico]; omega

theorem Ow_recv (c : Dev nD) {k j : ℕ} (h : k < 24) : Ow c k j = Ow c (k + 1) j + tallyAt (recvCell (nxt c) (slotOf k)) k N := by
  unfold Ow; rw [Ico_peel h, Finset.sum_insert Ico_peel_not_mem, add_comm (tallyAt _ _ _), add_assoc, add_comm (tallyAt _ _ _), ← add_assoc]
theorem Ow_cred (c : Dev nD) {k j : ℕ} (h : j < 21) : Ow c k j = Ow c k (j + 1) + tallyAt (credCell (prv c)) j 1 := by
  unfold Ow; rw [Ico_peel h, Finset.sum_insert Ico_peel_not_mem, add_comm (tallyAt _ _ _), ← add_assoc]
theorem Ow_end (c : Dev nD) {j : ℕ} (h : 21 ≤ j) : Ow c 24 j = 0 := by
  unfold Ow; rw [Finset.Ico_self, Finset.Ico_eq_empty (by omega), Finset.sum_empty, Finset.sum_empty, add_zero]

/-- What `c` owes at launch: all that, and one unit on each neighbour's barrier. -/
def O₁ (c : Dev nD) : CellTallies nD τ sig ℕ := Ow c 0 0 + tallyAt (barCell (nxt c)) 0 1
def O₀ (c : Dev nD) : CellTallies nD τ sig ℕ := O₁ c + tallyAt (barCell (prv c)) 0 1

theorem sum_tally_pos {s : Finset ℕ} {f : ℕ → CellTallies nD τ sig ℕ} {g : GSem nD τ sig} {u : ℕ} (h : 0 < (∑ i ∈ s, f i) g u) :
    ∃ i ∈ s, 0 < f i g u := by
  by_contra hn
  push Not at hn
  rw [Finset.sum_apply, Finsupp.finset_sum_apply, Finset.sum_eq_zero fun i hi => Nat.le_zero.mp (hn i hi)] at h
  exact Nat.lt_irrefl 0 h

theorem tally_pos {g g' : GSem nD τ sig} {u i n : ℕ} (h : 0 < (tallyAt g' i n : CellTallies nD τ sig ℕ) g u) : g = g' ∧ u = i := by
  rw [tallyAt_apply] at h; by_contra hn; rw [if_neg hn] at h; exact Nat.lt_irrefl 0 h

theorem Ow_pos {c : Dev nD} {k j : ℕ} {g : GSem nD τ sig} {u : ℕ} (h : 0 < Ow c k j g u) :
    (∃ h', g = recvCell (nxt c) h' ∧ k ≤ u ∧ u < 24) ∨ (g = credCell (prv c) ∧ j ≤ u ∧ u < 21) := by
  unfold Ow at h
  rw [Pi.add_apply, Finsupp.add_apply] at h
  rcases Nat.eq_zero_or_pos ((∑ i ∈ Finset.Ico k 24, tallyAt (recvCell (nxt c) (slotOf i)) i N : CellTallies nD τ sig ℕ) g u) with h0 | h0
  · rw [h0, Nat.zero_add] at h
    obtain ⟨i, hi, hp⟩ := sum_tally_pos h
    obtain ⟨rfl, rfl⟩ := tally_pos hp
    exact .inr ⟨rfl, (Finset.mem_Ico.mp hi).1, (Finset.mem_Ico.mp hi).2⟩
  · obtain ⟨i, hi, hp⟩ := sum_tally_pos h0
    obtain ⟨rfl, rfl⟩ := tally_pos hp
    exact .inl ⟨_, rfl, (Finset.mem_Ico.mp hi).1, (Finset.mem_Ico.mp hi).2⟩

/-- The indices a cell's units are counted under. -/
def L (g : GSem nD τ sig) : Finset ℕ := if g.1.2 = .tc then Finset.range 24 else ∅
/-- Barriers at level 1; the landing of number `i` at `2 i + 2`, the credit of number `i` just above, at `2 i + 3`;
    everything else (the staging transfers, the send semaphore) at 0. -/
def lv (g : GSem nD τ sig) (i : ℕ) : ℕ :=
  match roleOf g with
  | some .bar => 1
  | some (.recv _) => 2 * i + 2
  | some .cred => 2 * i + 3
  | _ => 0

theorem L_of_ne (g : GSem nD τ sig) (h : g.1.2 ≠ .tc) : L g = ∅ := if_neg h
theorem L_tc (c : Dev nD) (sm : SemLoc sig) : L ((c : Thread nD τ), sm) = Finset.range 24 := if_pos rfl
theorem lv_bar (c : Dev nD) (i : ℕ) : lv (barCell c) i = 1 := by unfold lv; rw [roleOf_kcell]
theorem lv_recv (c : Dev nD) (h : Fin 3) (i : ℕ) : lv (recvCell c h) i = 2 * i + 2 := by unfold lv; rw [roleOf_kcell]
theorem lv_cred (c : Dev nD) (i : ℕ) : lv (credCell c) i = 2 * i + 3 := by unfold lv; rw [roleOf_kcell]
theorem lv_send (c : Dev nD) (i : ℕ) : lv (sendCell c) i = 0 := by unfold lv; rw [roleOf_kcell]

/-- A wait at a level below everything still owed is allowed. -/
theorem mayWait_Ow (c : Dev nD) (sm : SemLoc sig) (ι k j : ℕ) (hι : ι < 24)
    (hk : lv ((c : Thread nD τ), sm) ι < 2 * k + 2) (hj : lv ((c : Thread nD τ), sm) ι < 2 * j + 3) :
    (levAts L lv : sProp 𝕄) ⊢ MayWait (c : Thread nD τ) sm ι (Ow c k j) :=
  MayOwe.of_cut (L := L) (lev := lv) (lv ((c : Thread nD τ), sm) ι)
    (fun p hp => by rw [Finset.mem_singleton.mp hp, L_tc]; exact Finset.mem_range.mpr hι)
    (fun g u hg => by
      rcases Ow_pos hg with ⟨h', rfl, h1, h2⟩ | ⟨rfl, h1, h2⟩ <;> rw [L_tc] <;> exact Finset.mem_range.mpr (by omega))
    (fun p hp => by rw [Finset.mem_singleton.mp hp])
    (fun g u hg => by
      rcases Ow_pos hg with ⟨h', rfl, h1, h2⟩ | ⟨rfl, h1, h2⟩
      · rw [lv_recv]; omega
      · rw [lv_cred]; omega)

/-- The staging transfers' waits at launch: they are at level 0, everything owed is above. -/
theorem mayWait_O₀ (c : Dev nD) (sm : SemLoc sig) (h0 : lv ((c : Thread nD τ), sm) 0 = 0) :
    (levAts L lv : sProp 𝕄) ⊢ MayWait (c : Thread nD τ) sm 0 (O₀ c) := by
  have hpos : ∀ g u, 0 < O₀ c g u → 0 < Ow c 0 0 g u ∨ ((g = barCell (nxt c) ∨ g = barCell (prv c)) ∧ u = 0) := by
    intro g u h
    unfold O₀ O₁ at h
    rw [Pi.add_apply, Finsupp.add_apply, Pi.add_apply, Finsupp.add_apply] at h
    by_cases h1 : 0 < Ow c 0 0 g u
    · exact .inl h1
    · by_cases h2 : 0 < (tallyAt (barCell (nxt c)) 0 1 : CellTallies nD τ sig ℕ) g u
      · exact .inr ⟨.inl (tally_pos h2).1, (tally_pos h2).2⟩
      · have h3 : 0 < (tallyAt (barCell (prv c)) 0 1 : CellTallies nD τ sig ℕ) g u := by omega
        exact .inr ⟨.inr (tally_pos h3).1, (tally_pos h3).2⟩
  refine MayOwe.of_cut (L := L) (lev := lv) 0
    (fun p hp => by rw [Finset.mem_singleton.mp hp, L_tc]; exact Finset.mem_range.mpr (by omega))
    (fun g u hg => ?_)
    (fun p hp => by rw [Finset.mem_singleton.mp hp, h0])
    (fun g u hg => ?_)
  · rcases hpos g u hg with h | ⟨rfl | rfl, rfl⟩
    · rcases Ow_pos h with ⟨h', rfl, h1, h2⟩ | ⟨rfl, h1, h2⟩ <;> rw [L_tc] <;> exact Finset.mem_range.mpr (by omega)
    all_goals rw [L_tc]; exact Finset.mem_range.mpr (by omega)
  · rcases hpos g u hg with h | ⟨rfl | rfl, rfl⟩
    · rcases Ow_pos h with ⟨h', rfl, h1, h2⟩ | ⟨rfl, h1, h2⟩
      · rw [lv_recv]; omega
      · rw [lv_cred]; omega
    all_goals rw [lv_bar]; omega

end Cert.RingProof

end
-- ==== Proof.Mem.lean ====
/-
  Loads and stores on owned memrefs: what the kernel's vector accesses do to `owns`, stated on the memref's own
  contents. A load through a rectangle reads the contents there; a store of the memref's own sizes replaces them; a
  load of a slot of the receive buffer reads what the transfer's view of that slot holds, re-indexed.
-/
module

public import proofs.«01_k».proof.Proof.Proto
public import Idealize.ShloMosaic.Lib.Pipeline.FrameBody
public import Idealize.ShloMosaic.Lib.VecWindow

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

abbrev 𝒱₀ : Variants := Variants.none

section Rules

variable (c : Dev nD)

theorem load_owns {α : Type} {Q : α → sProp 𝕄} {sp : CoreSpace} {s : Shape} {e : EltTy} {m : Memref sig .tc sp s e} {r : Rect s} {hl : m.view.LoadsAt r.toLoadRect}
    {k : (r.shape.Idx → Elt F e) → Prog (TpuEff nD τ sig (Elt F) Λ₀ .tc) α} {q : PosShare TreeShare} {X : s.Idx → Elt F e} :
    (owns (c : Thread nD τ) m q X : sProp 𝕄)
      ⊢ iprop((owns (c : Thread nD τ) m q X -∗ wp frame (wpE (defs₀ (F := F)) 𝒱₀ (c : Thread nD τ) none) Set.univ (k (View.ld X r)) Q)
          -∗ wp frame (wpE (defs₀ (F := F)) 𝒱₀ (c : Thread nD τ) none) Set.univ (.op (.load m r.toLoadRect hl) k) Q) := by
  unfold owns
  iintro ⟨%f, %hf, H⟩ Hk
  iapply (wp_load 𝒱₀ (c : Thread nD τ) none Set.univ (m := m) (View.setOn_subset_set _ _)) $$ H
  iintro H
  rw [View.readAt_eq_ld, hf]
  iapply Hk
  iexists f
  isplitr; · ipureintro; exact hf
  iexact H

theorem store_owns {α : Type} {Q : α → sProp 𝕄} {sp : CoreSpace} {s : Shape} {e : EltTy} {m : Memref sig .tc sp s e} {off : Fin s.rank → ℕ} {inb : ∀ a, off a + s.size a ≤ s.size a}
    {w : s.Idx → Elt F e} {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} {X : s.Idx → Elt F e} :
    (owns (c : Thread nD τ) m fullShare X : sProp 𝕄)
      ⊢ iprop((owns (c : Thread nD τ) m fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store m (Rect.unit off s.size inb) w Finset.univ hx hm) k) Q) := by
  unfold owns
  iintro ⟨%f, %hf, H⟩ Hk
  iapply (wp_store 𝒱₀ (c : Thread nD τ) none Set.univ (m := m) (r := Rect.unit off s.size inb) (w := w) (S := m.view.set) (f := f)
    (((m.access (Rect.unit off s.size inb)).setOn_subset_set _).trans (m.view.set_slice_subset _))) $$ H
  iintro H
  iapply Hk
  iexists ((m.access (Rect.unit off s.size inb)).write (Elt F) f w Finset.univ)
  isplitr
  · ipureintro
    exact (View.readAt_full m.view _ inb).symm.trans (View.read_write_univ (v := m.access (Rect.unit off s.size inb)) f w)
  · iexact H

theorem load_slot {α : Type} {Q : α → sProp 𝕄} {sp : CoreSpace} {s s' : Shape} {e : EltTy} {m : Memref sig .tc sp s e} {r : Rect s} (hr : ∀ a, r.stride a = 1)
    (hq : r.shape.Squeezes s') {hl : m.view.LoadsAt r.toLoadRect}
    {k : (r.shape.Idx → Elt F e) → Prog (TpuEff nD τ sig (Elt F) Λ₀ .tc) α} {q : PosShare TreeShare} {X : s'.Idx → Elt F e} :
    (owns (c : Thread nD τ) ((m.slice r hr).squeeze s' hq) q X : sProp 𝕄)
      ⊢ iprop((owns (c : Thread nD τ) ((m.slice r hr).squeeze s' hq) q X
            -∗ wp frame (wpE (defs₀ (F := F)) 𝒱₀ (c : Thread nD τ) none) Set.univ (k (fun y => X ((Shape.reshapeEquiv hq.numel_eq).symm y))) Q)
          -∗ wp frame (wpE (defs₀ (F := F)) 𝒱₀ (c : Thread nD τ) none) Set.univ (.op (.load m r.toLoadRect hl) k) Q) := by
  unfold owns
  iintro ⟨%f, %hf, H⟩ Hk
  iapply (wp_load_rect 𝒱₀ (c : Thread nD τ) none Set.univ (m := m) (r := r) (f := f)
    (S := ((m.slice r hr).squeeze s' hq).view.set) (subset_of_eq (View.set_reshape (m.view.slice r) hq.numel_eq).symm)) $$ H
  iintro H
  have e1 : (fun y => X ((Shape.reshapeEquiv hq.numel_eq).symm y)) = (m.access r).read (Elt F) f := by
    funext y; rw [← hf]
    show (m.access r).read (Elt F) f (Shape.reshapeEquiv hq.numel_eq ((Shape.reshapeEquiv hq.numel_eq).symm y)) = _
    rw [Equiv.apply_symm_apply]
  rw [e1]
  iapply Hk
  iexists f
  isplitr; · ipureintro; exact hf
  iexact H

theorem smem_owns {α : Type} {Q : α → sProp 𝕄} {s : Shape} {e : EltTy} {m : Memref sig .tc .smem s e} {r : Rect s} {h1 : r.shape.numel = 1} {hp : e.packing = 1}
    {k : Elt F e → Prog (TpuEff nD τ sig (Elt F) Λ₀ .tc) α} {q : PosShare TreeShare} {X : s.Idx → Elt F e} :
    (owns (c : Thread nD τ) m q X : sProp 𝕄)
      ⊢ iprop((owns (c : Thread nD τ) m q X -∗ wp frame (wpE (defs₀ (F := F)) 𝒱₀ (c : Thread nD τ) none) Set.univ
            (k (View.ld X r (Shape.Idx.first (h1.symm ▸ Nat.one_pos)))) Q)
          -∗ wp frame (wpE (defs₀ (F := F)) 𝒱₀ (c : Thread nD τ) none) Set.univ (smemLoad m r h1 hp >>= k) Q) := by
  iintro H Hk
  iapply (load_owns c (k := fun f => k (f _))) $$ H
  iexact Hk

end Rules

/-- A partial sum of `1024 × 1024` as the slot's block of one layer. -/
def lift1 (V : FVec F S1024x1024 .bf16) : Vec F S1x1024x1024 .bf16 :=
  fun y => V ((Shape.reshapeEquiv squeezes_S1x1024x1024_S1024x1024.numel_eq).symm y)

end Cert.RingProof

end
-- ==== Proof.Steps.lean ====
/-
  The steps of the ring kernel's run, at a device `c` and a hop: what a device holds between them, and one lemma for
  each wait, transfer and signal of the program.
-/
module

public import proofs.«01_k».proof.Proof.Mem
public import Idealize.SL.BI.BigOpNat

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- a device's program, run to `Q` -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Finite separating conjunctions, in the proof mode's words -/

theorem big_elim {I : Type} [DecidableEq I] {s : Finset I} {i : I} (hi : i ∈ s) (Φ : I → sProp 𝕄) : bigSep s Φ ⊢ Φ i := bigSep_elim hi
theorem big_erase {I : Type} [DecidableEq I] {s : Finset I} {i : I} (hi : i ∈ s) (Φ : I → sProp 𝕄) :
    bigSep s Φ = iprop(Φ i ∗ bigSep (s.erase i) Φ) := bigSep_erase hi
theorem big_bot {a b : ℕ} (h : a < b) (Φ : ℕ → sProp 𝕄) : bigSep (Finset.Ico a b) Φ = iprop(Φ a ∗ bigSep (Finset.Ico (a + 1) b) Φ) :=
  bigSep_Ico_succ_bot h Φ
theorem big_none {a b : ℕ} (h : b ≤ a) (Φ : ℕ → sProp 𝕄) : bigSep (Finset.Ico a b) Φ = iprop(emp) := by
  rw [Finset.Ico_eq_empty (by omega)]; rfl

/-! ## What is known throughout -/

/-- slot `k.2` of device `k.1`, with some contents -/
abbrev slotS (k : Dev nD × Fin 3) : sProp 𝕄 := slot ((slotM k.2).view.loc (k.1 : Thread nD τ)) (slotM k.2).view.set

theorem slot_nonempty (h : Fin 3) : (slotM h).view.set.Nonempty :=
  ⟨_, Finset.mem_map_of_mem _ (Finset.mem_univ (Shape.Idx.first (s := S1024x1024) (by decide)))⟩

theorem slotS_false (k : Dev nD × Fin 3) : iprop(slotS k ∗ slotS k) ⊢ (False : sProp 𝕄) :=
  slot_slot_false (slot_nonempty k.2)

section Recs

variable (Sv : Dev nD → ℕ → FVec F S1024x1024 .bf16) (K : Dev nD × Role → ℕ) (ιs : Dev nD × Fin 3 → ℕ)

/-- The invariants of all cells and slots, that every cell has started, and the levels. -/
def recs : sProp 𝕄 :=
  iprop(bigSep Finset.univ (fun ck : Dev nD × Role => cellInv ER (ringRd Sv) (K ck) (kcell ck))
    ∗ bigSep Finset.univ (fun ck : Dev nD × Role => reached ER (kcell ck) 0)
    ∗ bigSep Finset.univ (fun k : Dev nD × Fin 3 => slotInv EK (ιs k) k (slotS k))
    ∗ levAts L lv)

instance recs_persistent : BI.Persistent (recs Sv K ιs) := by unfold recs; infer_instance

theorem recs_cell (ck : Dev nD × Role) : recs Sv K ιs ⊢ cellInv ER (ringRd Sv) (K ck) (kcell ck) := by
  unfold recs
  iintro ⟨H, -, -, -⟩
  iapply (big_elim (Finset.mem_univ ck) (fun ck : Dev nD × Role => cellInv ER (ringRd Sv) (K ck) (kcell ck))) $$ H
theorem recs_reached (ck : Dev nD × Role) : recs Sv K ιs ⊢ (reached ER (kcell ck) 0 : sProp 𝕄) := by
  unfold recs
  iintro ⟨-, H, -, -⟩
  iapply (big_elim (Finset.mem_univ ck) (fun ck : Dev nD × Role => (reached ER (kcell ck) 0 : sProp 𝕄))) $$ H
theorem recs_slot (k : Dev nD × Fin 3) : recs Sv K ιs ⊢ (slotInv EK (ιs k) k (slotS k) : sProp 𝕄) := by
  unfold recs
  iintro ⟨-, -, H, -⟩
  iapply (big_elim (Finset.mem_univ k) (fun k : Dev nD × Fin 3 => (slotInv EK (ιs k) k (slotS k) : sProp 𝕄))) $$ H
theorem recs_lev : recs Sv K ιs ⊢ (levAts L lv : sProp 𝕄) := by
  unfold recs
  iintro ⟨-, -, -, H⟩
  iexact H

end Recs

/-! ## What a device holds -/

section State

variable (c : Dev nD)

def OwesC (k j : ℕ) : sProp 𝕄 := iprop(∃ W, owes (c : Thread nD τ) (Ow c k j) W)

/-- the tokens of its own send rounds from `n` on -/
abbrev SendToks (n : ℕ) : sProp 𝕄 := bigSep (Finset.Ico n 24) fun r => dutyTok ER (sendCell c) r 0
/-- before the transfer number `n` -/
def sendSt (n : ℕ) : sProp 𝕄 := iprop(atPos ER (sendCell c) n ∅ 0 ∗ reached ER (sendCell c) n ∗ SendToks c n)
/-- between that transfer and the wait for its leaving -/
def sendPend (n : ℕ) : sProp 𝕄 := iprop(atPos ER (sendCell c) n ∅ 0 ∗ cred (tallyAt (sendCell c) 0 N) ∗ SendToks c (n + 1))

/-- the tokens of the credits it gives, from number `n` on -/
def GiveToks (n : ℕ) : sProp 𝕄 := bigSep (Finset.Ico n 21) fun d => dutyTok ER (credCell (prv c)) 0 d
/-- what it has told with the first `n` credits -/
def relS (n : ℕ) : sProp 𝕄 := rel c (min n 21)

/-- `m` credits taken, and what came with them -/
def credSt (m : ℕ) : sProp 𝕄 :=
  iprop(∃ T : Finset ℕ, ⌜T ⊆ Finset.range 21 ∧ m + (Finset.range 21 \ T).card ≤ 21⌝ ∗ atPos ER (credCell c) 0 T m
    ∗ bigSep T (fun d => rel (nxt c) (d + 1)) ∗ bigSep (Finset.Ico m 21) fun i => cred (tallyAt (credCell c) i 1))

/-- its slot `h` before point `t`: given back until the last point, kept after it -/
def Res (h : Fin 3) (t : ℕ) : sProp 𝕄 := if t < 8 then readerAt EK (c, h) (t + 1) else slotS (c, h)
/-- the tokens of its transfers into the right neighbour's slot `h` from point `t` on, and the credit of its own slot's -/
def Toks (h : Fin 3) (t : ℕ) : sProp 𝕄 :=
  bigSep (Finset.Ico t 8) fun r => iprop(dutyTok ER (recvCell (nxt c) h) r 0 ∗ writeTok EK (nxt c, h) (r + 1)
    ∗ cred (tallyAt (recvCell c h) (3 * r + h.val) N))
def HopS (h : Fin 3) (t : ℕ) : sProp 𝕄 := iprop(atPos ER (recvCell c h) t ∅ 0 ∗ Res c h t ∗ Toks c h t)

/-- the right neighbour's slot `h` is free for point `t`'s transfer, and its receive cell waits for it -/
def sendOk (h : Fin 3) (t : ℕ) : sProp 𝕄 := iprop(released EK (nxt c, h) (t + 1) ∗ reached ER (recvCell (nxt c) h) t)

instance sendOk_persistent (h : Fin 3) (t : ℕ) : BI.Persistent (sendOk (F := F) c h t) := by unfold sendOk; infer_instance
instance relS_persistent (n : ℕ) : BI.Persistent (relS (F := F) c n) := by unfold relS; infer_instance

end State

theorem cnt_at (t : ℕ) (h : Fin 3) : cnt (3 * t + h.val + 1 - 3) h = t := by
  unfold cnt; omega

theorem cnt_mono {k k' : ℕ} (hk : k ≤ k') (h : Fin 3) : cnt k h ≤ cnt k' h := by
  unfold cnt; omega

/-- What has been told of slot `h` by `k` credits, `k` at least what point `t` needs. -/
theorem rel_sendOk (c : Dev nD) (h : Fin 3) (t k : ℕ) (hk : 3 * t + h.val + 1 - 3 ≤ k) : rel (nxt c) k ⊢ (sendOk c h t : sProp 𝕄) := by
  have hc : t ≤ cnt k h := (cnt_at t h).symm.le.trans (cnt_mono hk h)
  unfold rel
  unfold sendOk
  iintro H
  ihave H := (big_elim (Finset.mem_univ h) (fun h : Fin 3 => (iprop(released EK (nxt c, h) (cnt k h + 1) ∗ reached ER (recvCell (nxt c) h) (cnt k h)) : sProp 𝕄))) $$ H
  icases H with ⟨H1, H2⟩
  isplitl [H1]
  · iapply (released_mono EK (Nat.succ_le_succ hc)) $$ H1
  · iapply (reached_mono ER hc) $$ H2

/-- The credit number `3 t + h` adds what it says of slot `h`. -/
theorem rel_advance (c : Dev nD) (h : Fin 3) (t : ℕ) :
    iprop(rel c (3 * t + h.val) ∗ released EK (c, h) (t + 2) ∗ reached ER (recvCell c h) (t + 1)) ⊢ (rel c (3 * t + h.val + 1) : sProp 𝕄) := by
  have e : cnt (3 * t + h.val + 1) h = t + 1 := by unfold cnt; omega
  have e' : ∀ x ∈ (Finset.univ.erase h : Finset (Fin 3)), cnt (3 * t + h.val) x = cnt (3 * t + h.val + 1) x := by
    intro x hx
    have hne : x.val ≠ h.val := fun hh => (Finset.ne_of_mem_erase hx) (Fin.ext hh)
    have := x.isLt; have := h.isLt
    unfold cnt; omega
  unfold rel
  rw [big_erase (Finset.mem_univ h), big_erase (s := Finset.univ) (Finset.mem_univ h), e,
    bigSep_congr (s := Finset.univ.erase h) fun x hx => by rw [e' x hx]]
  iintro ⟨⟨-, H⟩, H1, H2⟩
  isplitl [H1 H2]
  · isplitl [H1] <;> iassumption
  · iexact H

/-! ## The steps -/

section Steps

variable (Sv : Dev nD → ℕ → FVec F S1024x1024 .bf16) (K : Dev nD × Role → ℕ) (ιs : Dev nD × Fin 3 → ℕ) (c : Dev nD)

theorem credits_exceed {T S : Finset ℕ} {m : ℕ} (hS : S ⊆ Finset.range 21) (hm : m + 1 + (Finset.range 21 \ S).card ≤ 21) : ∃ d ∈ S, m ≤ d := by
  by_contra hn
  push Not at hn
  have h1 : S ⊆ Finset.range m := fun d hd => Finset.mem_range.mpr (hn d hd)
  have h2 := Finset.card_le_card h1
  rw [Finset.card_range] at h2
  have h3 := Finset.card_sdiff_add_card_eq_card hS
  rw [Finset.card_range] at h3
  omega

/-- The wait for one credit before the transfer of hop `h` at point `t` — none at the first point. -/
theorem wait_credit {α : Type} {Q : α → sProp 𝕄} (h : Fin 3) (t : ℕ) (ht : t < 8) {p : Prop} [Decidable p] (hp : p ↔ 1 ≤ t)
    {k' : ℕ} (hk' : k' = 1) {k : Prog (TpuEff nD τ sig (Elt F) Λ₀ .tc) α} :
    iprop(recs Sv K ιs ∗ rel (nxt c) 0 ∗ credSt c (3 * t + h.val - 3) ∗ OwesC c (3 * t + h.val) (3 * t + h.val))
      ⊢ iprop((sendOk c h t ∗ credSt c (3 * t + h.val + 1 - 3) ∗ OwesC c (3 * t + h.val) (3 * t + h.val) -∗ wpc c k Q)
          -∗ wpc c (if _ : p then .op (.semWait credS (k' : ℤ)) (fun _ => k) else k) Q) := by
  subst hk'
  by_cases h0 : 1 ≤ t
  · rw [dif_pos (hp.mpr h0)]
    have hm : 3 * t + h.val + 1 - 3 = 3 * t + h.val - 3 + 1 := by omega
    have hlt : 3 * t + h.val - 3 < 21 := by omega
    have hhi := h.isLt
    rw [hm]
    generalize hmm : 3 * t + h.val - 3 = m at *
    unfold OwesC
    iintro ⟨#HR, -, Hc, ⟨%W, HO⟩⟩ Hk
    unfold credSt
    icases Hc with ⟨%T, %hT, Hat, #Hrel, Hcs⟩
    ihave Hcs := (Entails.of_eq (big_bot hlt (fun i => (cred (tallyAt (credCell c) i 1) : sProp 𝕄)))) $$ Hcs
    icases Hcs with ⟨Hc1, Hcs⟩
    iapply (Rounds.wp_wait 𝒱₀ ER (ringRd Sv) (c : Thread nD τ) none (κ := K (c, .cred))
      (wpE_semWait_eq 𝒱₀ (c : Thread nD τ) none Set.univ) (Set.mem_univ _) (cr := Finsupp.single m 1)
      (O := Ow c (3 * t + h.val) (3 * t + h.val)) (W := W) {(SemLoc.reg credS, m)} (R := 0) (m := m) (T := T)
      (by rw [Util.total_single]) (image_single_subset _ m 1)) $$ [Hc1 HO Hat]
    · isplitr; · iapply (recs_cell Sv K ιs (c, .cred)) $$ HR
      isplitl [Hc1]; · iexact Hc1
      isplitl [HO]; · iexact HO
      isplitr
      · iapply (mayWait_Ow c (.reg credS) m _ _ (by omega) (by rw [lv_cred]; omega) (by rw [lv_cred]; omega))
        iapply (recs_lev Sv K ιs) $$ HR
      iexact Hat
    iintro %S ⟨%hS, HO, Hat, Hpay⟩
    obtain ⟨hTS, hSd, hcard⟩ := hS
    rw [duties_cred] at hSd hcard
    rw [expect_cred] at hcard
    ihave Hrel' := (show bigSep (S \ T) (fun d => (ringRd Sv).payload (credCell c) 0 d) ⊢ (bigSep (S \ T) fun d => rel (nxt c) (d + 1) : sProp 𝕄) from
      Entails.of_eq (bigSep_congr fun d _ => payload_k Sv c .cred 0 d)) $$ Hpay
    icases Hrel' with #Hrel'
    ihave HrelS := (show iprop(bigSep T (fun d => rel (nxt c) (d + 1)) ∗ bigSep (S \ T) fun d => rel (nxt c) (d + 1))
      ⊢ (bigSep S fun d => rel (nxt c) (d + 1) : sProp 𝕄) from Entails.of_eq (bigSep_sdiff_split hTS).symm) $$ [Hrel Hrel']
    · isplitr <;> iassumption
    icases HrelS with #HrelS
    obtain ⟨d, hd, hmd⟩ := credits_exceed (T := T) hSd hcard
    iapply Hk
    isplitr
    · iapply (rel_sendOk c h t (d + 1) (by omega))
      iapply (big_elim hd (fun d => (rel (nxt c) (d + 1) : sProp 𝕄))) $$ HrelS
    isplitr [HO]
    · iexists S
      isplitr; · ipureintro; exact ⟨hSd, hcard⟩
      isplitl [Hat]; · iexact Hat
      isplitr; · iexact HrelS
      iexact Hcs
    · iexists _; iexact HO
  · rw [dif_neg (fun hh => h0 (hp.mp hh))]
    have ht0 : t = 0 := by omega
    subst ht0
    have hhi := h.isLt
    rw [show 3 * 0 + h.val - 3 = 0 by omega, show 3 * 0 + h.val + 1 - 3 = 0 by omega]
    iintro ⟨-, #Hr, Hc, HO⟩ Hk
    iapply Hk
    isplitr; · iapply (rel_sendOk c h 0 0 (by omega)) $$ Hr
    isplitl [Hc] <;> iassumption

/-- The transfer of hop `h` at point `t`, to the right neighbour. -/
theorem send_hop {α : Type} {Q : α → sProp 𝕄} (h : Fin 3) (t j : ℕ) (ht : t < 8) (n : Dev nD) (hn : n = nxt c)
    {hsc : (slotM h : Memref sig (Dev.tc n : Thread nD τ).2.kind .vmem S1024x1024 .bf16).view.ref.isScScratch = false}
    {hsrc : sendM.view.WordExact} {hdst : (slotM h).view.WordExact}
    {hsem : DmaTarget.Typed .vmem (.dma (recvS h)) (.remote (Dev.tc n : Thread nD τ) (slotM h : Memref sig .tc .vmem S1024x1024 .bf16) (.dma sendS) hsc)}
    {k : PUnit → Prog (TpuEff nD τ sig (Elt F) Λ₀ .tc) α} (V : FVec F S1024x1024 .bf16) (hV : V = Sv c (3 * t + h.val)) :
    iprop(recs Sv K ιs ∗ sendOk c h t ∗ sendSt c (3 * t + h.val) ∗ Toks c h t ∗ owns (c : Thread nD τ) sendM fullShare V
        ∗ OwesC c (3 * t + h.val) j)
      ⊢ iprop((sendPend c (3 * t + h.val) ∗ Toks c h (t + 1) ∗ cred (tallyAt (recvCell c h) (3 * t + h.val) N)
            ∗ OwesC c (3 * t + h.val + 1) j -∗ wpc c (k ⟨⟩) Q)
          -∗ wpc c (.op (.enqueueDma sendM (.remote (Dev.tc n : Thread nD τ) (slotM h) (.dma sendS) hsc) (.dma (recvS h)) hsrc hdst hsem) k) Q) := by
  subst hn
  have hhi := h.isLt
  have hslot : slotOf (3 * t + h.val) = h := Fin.ext (by show (3 * t + h.val) % 3 = h.val; omega)
  have hp1 : ∀ fs : Buf (Elt F) (sendM.view.loc (c : Thread nD τ)), (sendM.view.loc (c : Thread nD τ) ↦[sendM.view.set]{fullShare} fs)
      ⊢ ((ringRd Sv).payload (sendCell c) (3 * t + h.val) 0 : sProp 𝕄) := by
    intro fs
    rw [payload_k]
    show _ ⊢ (iprop(∃ V, owns (c : Thread nD τ) sendM fullShare V) : sProp 𝕄)
    iintro H; iexists (sendM.view.read (Elt F) fs)
    iapply (owns_intro (c : Thread nD τ) sendM fullShare fs) $$ H
  have hp2 : ∀ (fs : Buf (Elt F) (sendM.view.loc (c : Thread nD τ))) (fd : Buf (Elt F) ((slotM h).view.loc (nxt c : Thread nD τ))),
      sendM.view.read (Elt F) fs = V →
      ((slotM h).view.loc (nxt c : Thread nD τ) ↦[(slotM h).view.set]{fullShare} ((slotM h).view.write (Elt F) fd (sendM.view.read (Elt F) fs) Finset.univ))
        ⊢ ((ringRd Sv).payload (recvCell (nxt c) h) t 0 : sProp 𝕄) := by
    intro fs fd hfs
    rw [payload_k]
    show _ ⊢ (owns (nxt c : Thread nD τ) (slotM h) fullShare (Sv (prv (nxt c)) (3 * t + h.val)) : sProp 𝕄)
    rw [prv_nxt, ← hV, ← hfs]
    refine (owns_intro (nxt c : Thread nD τ) (slotM h) fullShare _).trans (Entails.of_eq ?_)
    rw [View.read_write_univ]
  have hOw : Ow c (3 * t + h.val) j = Ow c (3 * t + h.val + 1) j + tallyAt (recvCell (nxt c) h) (3 * t + h.val) N := by
    rw [Ow_recv c (show 3 * t + h.val < 24 by omega), hslot]
  unfold sendOk sendSt sendPend Toks OwesC SendToks
  rw [big_bot ht, big_bot (show 3 * t + h.val < 24 by omega)]
  iintro ⟨#HR, ⟨#Hrl, #Hrv⟩, ⟨Hat, #Hrs, Htok, Hts⟩, ⟨⟨Hd, Hw, Hcr⟩, Ht⟩, Hown, ⟨%W, HO⟩⟩ Hk
  imod (slot_take EK (Set.mem_univ (ιs (nxt c, h))) (t + 1)) $$ [Hw] with Hslot
  · isplitr; · iapply (recs_slot Sv K ιs (nxt c, h)) $$ HR
    isplitr; · iexact Hrl
    iexact Hw
  unfold slotS slot
  icases Hslot with ⟨%fd, Hslot⟩
  ihave Hown := (show (owns (c : Thread nD τ) sendM fullShare V : sProp 𝕄) ⊢ iprop(∃ f : Buf (Elt F) (sendM.view.loc (c : Thread nD τ)), ⌜sendM.view.read (Elt F) f = V⌝ ∗ (sendM.view.loc (c : Thread nD τ) ↦[sendM.view.set]{fullShare} f)) from Entails.of_eq rfl) $$ Hown
  icases Hown with ⟨%fs, %hfs, Hsrc⟩
  iapply (Rounds.wp_send_pointsTo 𝒱₀ ER (ringRd Sv) (c : Thread nD τ) none (κ₁ := K (c, .send)) (κ₂ := K (nxt c, .recv h))
    (c' := (nxt c : Thread nD τ)) (src := sendM) (dst := slotM h) (sS := .dma sendS) (sem := .dma (recvS h))
    (r₁ := 3 * t + h.val) (r₂ := t) (d₁ := 0) (d₂ := 0) (fd := fd) (fs := fs)
    (by rw [duties_send Sv c (by omega)]; exact Finset.mem_singleton_self _) (by rw [duties_recv Sv (nxt c) h ht]; exact Finset.mem_singleton_self _)
    (3 * t + h.val) 0 N (slot_credit h) (amount_k Sv c .send _ 0) (amount_k Sv (nxt c) (.recv h) t 0)
    (O₀ := Ow c (3 * t + h.val) j) (Ow c (3 * t + h.val + 1) j) hOw (W := W)
    (q := fullShare) (hp1 fs) (hp2 fs fd hfs)) $$ [Hsrc Hslot HO Htok Hd]
  · isplitr; · iapply (recs_cell Sv K ιs (c, .send)) $$ HR
    isplitr; · iapply (recs_cell Sv K ιs (nxt c, .recv h)) $$ HR
    isplitl [Hsrc]; · iexact Hsrc
    isplitl [Hslot]; · iexact Hslot
    isplitl [HO]; · iexact HO
    isplitl [Htok]; · iexact Htok
    isplitr; · iexact Hrs
    isplitl [Hd]; · iexact Hd
    iexact Hrv
  iintro ⟨HcS, HO⟩
  iapply Hk
  isplitl [Hat HcS Hts]
  · isplitl [Hat]; · iexact Hat
    isplitl [HcS] <;> iassumption
  isplitl [Ht]; · iexact Ht
  isplitl [Hcr]; · iexact Hcr
  iexists _; iexact HO

/-- The wait for the own transfer's leaving: the send buffer is the device's again. -/
theorem wait_send {α : Type} {Q : α → sProp 𝕄} (n j : ℕ) (hn : n < 24)
    {k : PUnit → Prog (TpuEff nD τ sig (Elt F) Λ₀ .tc) α}
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma sendS) N Kt) :
    iprop(recs Sv K ιs ∗ sendPend c n ∗ OwesC c (n + 1) j)
      ⊢ iprop((sendSt c (n + 1) ∗ (∃ V, owns (c : Thread nD τ) sendM fullShare V) ∗ OwesC c (n + 1) j -∗ wpc c (k ⟨⟩) Q)
          -∗ wpc c (.op w k) Q) := by
  unfold sendPend OwesC sendSt
  iintro ⟨#HR, ⟨Hat, Hc, Ht⟩, ⟨%W, HO⟩⟩ Hk
  iapply (Rounds.wp_wait_rest_token 𝒱₀ ER (ringRd Sv) (c : Thread nD τ) none (κ := K (c, .send))
    hw (Set.mem_univ _) 0 (O := Ow c (n + 1) j) (W := W) (R := n) (m := 0) (T := ∅)
    (by rw [expect_send Sv c hn, Nat.zero_add])) $$ [Hc HO Hat]
  · isplitr; · iapply (recs_cell Sv K ιs (c, .send)) $$ HR
    isplitl [Hc]; · iexact Hc
    isplitl [HO]; · iexact HO
    isplitr
    · iapply (mayWait_Ow c (.dma sendS) 0 _ _ (by omega) (by rw [lv_send]; omega) (by rw [lv_send]; omega))
      iapply (recs_lev Sv K ιs) $$ HR
    iexact Hat
  iintro ⟨HO, Hat, Hr, Hpay⟩
  ihave Hpay := (Entails.of_eq (rest_send Sv c hn)) $$ Hpay
  iapply Hk
  isplitl [Hat Hr Ht]
  · isplitl [Hat]; · iexact Hat
    isplitl [Hr] <;> iassumption
  isplitl [Hpay]; · iexact Hpay
  iexists _; iexact HO

/-- The wait for the left neighbour's transfer: slot `h` holds its partial sum of this hop. -/
theorem wait_recv {α : Type} {Q : α → sProp 𝕄} (h : Fin 3) (t : ℕ) (ht : t < 8)
    {k : PUnit → Prog (TpuEff nD τ sig (Elt F) Λ₀ .tc) α}
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma (recvS h)) N Kt) :
    iprop(recs Sv K ιs ∗ atPos ER (recvCell c h) t ∅ 0 ∗ cred (tallyAt (recvCell c h) (3 * t + h.val) N)
        ∗ OwesC c (3 * t + h.val + 1) (3 * t + h.val))
      ⊢ iprop((atPos ER (recvCell c h) (t + 1) ∅ 0 ∗ reached ER (recvCell c h) (t + 1)
            ∗ owns (c : Thread nD τ) (slotM h) fullShare (Sv (prv c) (3 * t + h.val))
            ∗ OwesC c (3 * t + h.val + 1) (3 * t + h.val) -∗ wpc c (k ⟨⟩) Q)
          -∗ wpc c (.op w k) Q) := by
  have hhi := h.isLt
  unfold OwesC
  iintro ⟨#HR, Hat, Hc, ⟨%W, HO⟩⟩ Hk
  iapply (Rounds.wp_wait_rest_token 𝒱₀ ER (ringRd Sv) (c : Thread nD τ) none (κ := K (c, .recv h))
    hw (Set.mem_univ _) (3 * t + h.val) (O := Ow c (3 * t + h.val + 1) (3 * t + h.val)) (W := W) (R := t) (m := 0) (T := ∅)
    (by rw [expect_recv Sv c h ht, Nat.zero_add])) $$ [Hc HO Hat]
  · isplitr; · iapply (recs_cell Sv K ιs (c, .recv h)) $$ HR
    isplitl [Hc]; · iexact Hc
    isplitl [HO]; · iexact HO
    isplitr
    · iapply (mayWait_Ow c (.dma (recvS h)) (3 * t + h.val) _ _ (by omega) (by rw [lv_recv]; omega) (by rw [lv_recv]; omega))
      iapply (recs_lev Sv K ιs) $$ HR
    iexact Hat
  iintro ⟨HO, Hat, Hr, Hpay⟩
  ihave Hpay := (Entails.of_eq (rest_recv Sv c h ht)) $$ Hpay
  iapply Hk
  isplitl [Hat]; · iexact Hat
  isplitl [Hr]; · iexact Hr
  isplitl [Hpay]; · iexact Hpay
  iexists _; iexact HO

/-- Owning a slot's contents is having the slot. -/
theorem owns_slotS (h : Fin 3) (V : FVec F S1024x1024 .bf16) : (owns (c : Thread nD τ) (slotM h) fullShare V : sProp 𝕄) ⊢ slotS (c, h) := by
  unfold owns slotS slot
  iintro ⟨%f, -, H⟩
  iexists f; iexact H

/-- Giving the credit of hop `h` at point `t` to the left neighbour, slot `h` read — none at the last point, where the
    slot is kept. -/
theorem give_credit {α : Type} {Q : α → sProp 𝕄} (h : Fin 3) (t : ℕ) (ht : t < 8) {p : Prop} [Decidable p] (hp : p ↔ t < 7)
    {dst : p → Dev nD} (hdst : ∀ hh, dst hh = prv c) {k' : ℕ} (hk' : k' = 1) {k : Prog (TpuEff nD τ sig (Elt F) Λ₀ .tc) α}
    (V : FVec F S1024x1024 .bf16) :
    iprop(recs Sv K ιs ∗ GiveToks c (3 * t + h.val) ∗ relS c (3 * t + h.val) ∗ Res c h t ∗ reached ER (recvCell c h) (t + 1)
        ∗ owns (c : Thread nD τ) (slotM h) fullShare V ∗ OwesC c (3 * t + h.val + 1) (3 * t + h.val))
      ⊢ iprop((GiveToks c (3 * t + h.val + 1) ∗ relS c (3 * t + h.val + 1) ∗ Res c h (t + 1)
            ∗ OwesC c (3 * t + h.val + 1) (3 * t + h.val + 1) -∗ wpc c k Q)
          -∗ wpc c (if hh : p then .op (.semSignal (dst hh, Proc.tc) credS (k' : ℤ)) (fun _ => k) else k) Q) := by
  subst hk'
  have hhi := h.isLt
  by_cases h0 : t < 7
  · rw [dif_pos (hp.mpr h0), hdst]
    unfold GiveToks relS Res OwesC
    rw [if_pos ht, if_pos (show t + 1 < 8 by omega), Nat.min_eq_left (show 3 * t + h.val ≤ 21 by omega),
      Nat.min_eq_left (show 3 * t + h.val + 1 ≤ 21 by omega), big_bot (show 3 * t + h.val < 21 by omega)]
    iintro ⟨#HR, ⟨Htok, Hts⟩, #Hrel, Hrd, #Hrc, Hown, ⟨%W, HO⟩⟩ Hk
    ihave Hsl := (owns_slotS c h V) $$ Hown
    imod (slot_release EK (Set.mem_univ (ιs (c, h))) (slotS_false (c, h)) (t + 1)) $$ [Hrd Hsl] with ⟨Hrd, #Hnew⟩
    · isplitr; · iapply (recs_slot Sv K ιs (c, h)) $$ HR
      isplitl [Hrd] <;> iassumption
    ihave Hrel' := (rel_advance c h t) $$ [Hrel Hnew Hrc]
    · isplitr; · iexact Hrel
      isplitr <;> iassumption
    icases Hrel' with #Hrel'
    iapply (Rounds.wp_signal 𝒱₀ ER (ringRd Sv) (c : Thread nD τ) none (dst := (prv c : Thread nD τ)) (κ := K (prv c, .cred)) (r := 0)
      (d := 3 * t + h.val) (by rw [duties_cred]; exact Finset.mem_range.mpr (by omega)) (amount_k Sv (prv c) .cred 0 _) (3 * t + h.val)
      (Ow c (3 * t + h.val + 1) (3 * t + h.val + 1)) (Ow_cred c (show 3 * t + h.val < 21 by omega))) $$ [HO Htok]
    · isplitr; · iapply (recs_cell Sv K ιs (prv c, .cred)) $$ HR
      isplitl [HO]; · iexact HO
      isplitl [Htok]; · iexact Htok
      isplitr
      · iapply (show (rel c (3 * t + h.val + 1) : sProp 𝕄) ⊢ (ringRd Sv).payload (credCell (prv c)) 0 (3 * t + h.val) from
          Entails.of_eq (((payload_k Sv (prv c) .cred 0 (3 * t + h.val)).trans
            (show (rel (nxt (prv c)) (3 * t + h.val + 1) : sProp 𝕄) = _ by rw [nxt_prv])).symm)) $$ Hrel'
      iapply (recs_reached Sv K ιs (prv c, .cred)) $$ HR
    iintro HO
    iapply Hk
    isplitl [Hts]; · iexact Hts
    isplitr; · iexact Hrel'
    isplitl [Hrd]; · iexact Hrd
    iexists _; iexact HO
  · rw [dif_neg (fun hh => h0 (hp.mp hh))]
    have ht0 : t = 7 := by omega
    subst ht0
    unfold GiveToks relS Res OwesC
    rw [if_neg (show ¬ (7 + 1 < 8) by omega), Nat.min_eq_right (show 21 ≤ 3 * 7 + h.val by omega),
      Nat.min_eq_right (show 21 ≤ 3 * 7 + h.val + 1 by omega), big_none (show 21 ≤ 3 * 7 + h.val by omega),
      big_none (show 21 ≤ 3 * 7 + h.val + 1 by omega),
      show Ow c (3 * 7 + h.val + 1) (3 * 7 + h.val) = Ow c (3 * 7 + h.val + 1) (3 * 7 + h.val + 1) by
        unfold Ow; rw [Finset.Ico_eq_empty (show ¬ (3 * 7 + h.val < 21) by omega), Finset.Ico_eq_empty (show ¬ (3 * 7 + h.val + 1 < 21) by omega)]]
    iintro ⟨#HR, He, #Hrel, -, -, Hown, HO⟩ Hk
    iapply Hk
    isplitl [He]; · iexact He
    isplitr; · iexact Hrel
    isplitl [Hown]; · iapply (owns_slotS c h V) $$ Hown
    iexact HO

end Steps

end Cert.RingProof

end
-- ==== Proof.Entry.lean ====
/-
  The first and the last thing a device does: the entry barrier, where it gives all its slots to its left neighbour and
  learns that its right neighbour's are free, and the closing of its cells once every round is over.
-/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section Ends

variable (Sv : Dev nD → ℕ → FVec F S1024x1024 .bf16) (K : Dev nD × Role → ℕ) (ιs : Dev nD × Fin 3 → ℕ) (c : Dev nD)

/-- All its slots given back once: what it tells at the barrier. -/
theorem rel_zero :
    iprop((released EK (c, (0 : Fin 3)) 1 ∗ reached ER (recvCell c 0) 0) ∗ (released EK (c, (1 : Fin 3)) 1 ∗ reached ER (recvCell c 1) 0)
      ∗ (released EK (c, (2 : Fin 3)) 1 ∗ reached ER (recvCell c 2) 0)) ⊢ (rel c 0 : sProp 𝕄) := by
  unfold rel
  rw [BI.bigSep_univ_eq_bigSepL [(0 : Fin 3), 1, 2] (by decide) (by decide)]
  show _ ⊢ (iprop((released EK (c, (0 : Fin 3)) (cnt 0 0 + 1) ∗ reached ER (recvCell c 0) (cnt 0 0))
    ∗ (released EK (c, (1 : Fin 3)) (cnt 0 1 + 1) ∗ reached ER (recvCell c 1) (cnt 0 1))
    ∗ (released EK (c, (2 : Fin 3)) (cnt 0 2 + 1) ∗ reached ER (recvCell c 2) (cnt 0 2))) : sProp 𝕄)
  rw [show cnt 0 0 = 0 from rfl, show cnt 0 1 = 0 from rfl, show cnt 0 2 = 0 from rfl]

/-- What the entry barrier takes. -/
def entrySt : sProp 𝕄 :=
  iprop((readerAt EK (c, (0 : Fin 3)) 0 ∗ slotS (c, 0)) ∗ (readerAt EK (c, (1 : Fin 3)) 0 ∗ slotS (c, 1)) ∗ (readerAt EK (c, (2 : Fin 3)) 0 ∗ slotS (c, 2))
    ∗ dutyTok ER (barCell (prv c)) 0 1 ∗ dutyTok ER (barCell (nxt c)) 0 0
    ∗ atPos ER (barCell c) 0 ∅ 0 ∗ cred (tallyAt (barCell c) 0 2))

/-- The entry barrier: both neighbours told, both heard. -/
theorem entry {α : Type} {Q : α → sProp 𝕄} (n₁ n₂ : Dev nD) (h₁ : n₁ = prv c) (h₂ : n₂ = nxt c)
    {k₁ k₂ k₃ : ℕ} (hk₁ : k₁ = 1) (hk₂ : k₂ = 1) (hk₃ : k₃ = 2) {k : Prog (TpuEff nD τ sig (Elt F) Λ₀ .tc) α} :
    iprop(recs Sv K ιs ∗ entrySt c ∗ ∃ W, owes (c : Thread nD τ) (O₀ c) W)
      ⊢ iprop((semVal (barCell c) 0 ∗ rel (nxt c) 0 ∗ relS c 0 ∗ Res c 0 0 ∗ Res c 1 0 ∗ Res c 2 0 ∗ OwesC c 0 0 -∗ wpc c k Q)
          -∗ wpc c (.op (.semSignal (n₁, Proc.tc) barS (k₁ : ℤ)) fun _ => .op (.semSignal (n₂, Proc.tc) barS (k₂ : ℤ)) fun _ =>
              .op (.semWait barS (k₃ : ℤ)) fun _ => k) Q) := by
  subst h₁ h₂ hk₁ hk₂ hk₃
  unfold entrySt OwesC Res relS
  rw [if_pos (show 0 < 8 by omega), show min 0 21 = 0 from rfl, if_pos (show 0 < 8 by omega), if_pos (show 0 < 8 by omega)]
  iintro ⟨#HR, ⟨⟨Hr0, Hs0⟩, ⟨Hr1, Hs1⟩, ⟨Hr2, Hs2⟩, Ht1, Ht0, Hat, Hc⟩, ⟨%W, HO⟩⟩ Hk
  imod (slot_release EK (Set.mem_univ (ιs (c, 0))) (slotS_false (c, 0)) 0) $$ [Hr0 Hs0] with ⟨Hr0, #Hn0⟩
  · isplitr; · iapply (recs_slot Sv K ιs (c, 0)) $$ HR
    isplitl [Hr0] <;> iassumption
  imod (slot_release EK (Set.mem_univ (ιs (c, 1))) (slotS_false (c, 1)) 0) $$ [Hr1 Hs1] with ⟨Hr1, #Hn1⟩
  · isplitr; · iapply (recs_slot Sv K ιs (c, 1)) $$ HR
    isplitl [Hr1] <;> iassumption
  imod (slot_release EK (Set.mem_univ (ιs (c, 2))) (slotS_false (c, 2)) 0) $$ [Hr2 Hs2] with ⟨Hr2, #Hn2⟩
  · isplitr; · iapply (recs_slot Sv K ιs (c, 2)) $$ HR
    isplitl [Hr2] <;> iassumption
  ihave Hrel := (rel_zero (F := F) c) $$ []
  · isplitr
    · isplitr; · iexact Hn0
      iapply (recs_reached Sv K ιs (c, .recv 0)) $$ HR
    isplitr
    · isplitr; · iexact Hn1
      iapply (recs_reached Sv K ιs (c, .recv 1)) $$ HR
    · isplitr; · iexact Hn2
      iapply (recs_reached Sv K ιs (c, .recv 2)) $$ HR
  icases Hrel with #Hrel
  iapply (Rounds.wp_signal 𝒱₀ ER (ringRd Sv) (c : Thread nD τ) none (dst := (prv c : Thread nD τ)) (κ := K (prv c, .bar)) (r := 0)
    (d := 1) (by rw [duties_bar]; decide) (amount_k Sv (prv c) .bar 0 _) 0 (O₁ c) rfl) $$ [HO Ht1]
  · isplitr; · iapply (recs_cell Sv K ιs (prv c, .bar)) $$ HR
    isplitl [HO]; · iexact HO
    isplitl [Ht1]; · iexact Ht1
    isplitr
    · iapply (show (rel c 0 : sProp 𝕄) ⊢ (ringRd Sv).payload (barCell (prv c)) 0 1 from
        Entails.of_eq (((payload_k Sv (prv c) .bar 0 1).trans (show (rel (nxt (prv c)) 0 : sProp 𝕄) = _ by rw [nxt_prv])).symm)) $$ Hrel
    iapply (recs_reached Sv K ιs (prv c, .bar)) $$ HR
  iintro HO
  iapply (Rounds.wp_signal 𝒱₀ ER (ringRd Sv) (c : Thread nD τ) none (dst := (nxt c : Thread nD τ)) (κ := K (nxt c, .bar)) (r := 0)
    (d := 0) (by rw [duties_bar]; decide) (amount_k Sv (nxt c) .bar 0 _) 0 (Ow c 0 0) (show O₁ c = _ from rfl)) $$ [HO Ht0]
  · isplitr; · iapply (recs_cell Sv K ιs (nxt c, .bar)) $$ HR
    isplitl [HO]; · iexact HO
    isplitl [Ht0]; · iexact Ht0
    isplitr
    · iapply (show (iprop(emp) : sProp 𝕄) ⊢ (ringRd Sv).payload (barCell (nxt c)) 0 0 from
        Entails.of_eq ((payload_k Sv (nxt c) .bar 0 0).symm))
      iempintro
    iapply (recs_reached Sv K ιs (nxt c, .bar)) $$ HR
  iintro HO
  iapply (Rounds.wp_wait_rest_token 𝒱₀ ER (ringRd Sv) (c : Thread nD τ) none (κ := K (c, .bar))
    (wpE_semWait_eq 𝒱₀ (c : Thread nD τ) none Set.univ) (Set.mem_univ _) 0 (O := Ow c 0 0) (W := W) (R := 0) (m := 0) (T := ∅)
    (by rw [expect_bar])) $$ [Hc HO Hat]
  · isplitr; · iapply (recs_cell Sv K ιs (c, .bar)) $$ HR
    isplitl [Hc]; · iexact Hc
    isplitl [HO]; · iexact HO
    isplitr
    · iapply (mayWait_Ow c (.reg barS) 0 _ _ (by omega) (by rw [lv_bar]; omega) (by rw [lv_bar]; omega))
      iapply (recs_lev Sv K ιs) $$ HR
    iexact Hat
  iintro ⟨HO, Hat, -, Hpay⟩
  ihave Hpay := (Entails.of_eq (rest_bar Sv c)) $$ Hpay
  icases Hpay with ⟨-, Hrn⟩
  imod (Rounds.cell_close ER (ringRd Sv) (Set.mem_univ (K (c, .bar))) (fun h => h) (R := 0 + 1) (duties_later Sv c .bar)) $$ [Hat] with Hz
  · isplitr; · iapply (recs_cell Sv K ιs (c, .bar)) $$ HR
    iexact Hat
  iapply Hk
  isplitl [Hz]; · iexact Hz
  isplitl [Hrn]; · iexact Hrn
  isplitr; · iexact Hrel
  isplitl [Hr0]; · iexact Hr0
  isplitl [Hr1]; · iexact Hr1
  isplitl [Hr2]; · iexact Hr2
  iexists _; iexact HO

/-- All 21 credits taken: the credit cell's one round is over. -/
theorem credSt_done : credSt c 21 ⊢ (iprop(∃ T : Finset ℕ, ⌜T = Finset.range 21⌝ ∗ atPos ER (credCell c) 0 T 21) : sProp 𝕄) := by
  unfold credSt
  iintro ⟨%T, %hT, Hat, -, -⟩
  iexists T
  isplitr
  · ipureintro
    have h0 : (Finset.range 21 \ T).card = 0 := by omega
    exact Finset.Subset.antisymm hT.1 (Finset.sdiff_eq_empty_iff_subset.mp (Finset.card_eq_zero.mp h0))
  iexact Hat

/-- Every round over, the cells close: their counters are the device's again, at zero. -/
theorem close :
    iprop(recs Sv K ιs ∗ sendSt c 24 ∗ atPos ER (recvCell c 0) 8 ∅ 0 ∗ atPos ER (recvCell c 1) 8 ∅ 0 ∗ atPos ER (recvCell c 2) 8 ∅ 0 ∗ credSt c 21)
      ⊢ |={Set.univ}=> iprop(semVal (sendCell c) 0 ∗ semVal (recvCell c 0) 0 ∗ semVal (recvCell c 1) 0 ∗ semVal (recvCell c 2) 0 ∗ semVal (credCell c) 0) := by
  unfold sendSt
  iintro ⟨#HR, ⟨Hs, -, -⟩, H0, H1, H2, Hc⟩
  ihave Hc := (credSt_done (F := F) c) $$ Hc
  icases Hc with ⟨%T, %hT, Hc⟩
  imod (Rounds.fupd_skip ER (ringRd Sv) (κ := K (c, .cred)) (T := T) (m := 21) (by rw [duties_cred Sv c, hT]) (expect_cred Sv c).symm (Set.mem_univ _)) $$ [Hc] with ⟨Hc, -⟩
  · isplitr; · iapply (recs_cell Sv K ιs (c, .cred)) $$ HR
    iexact Hc
  imod (Rounds.cell_close ER (ringRd Sv) (Set.mem_univ (K (c, .cred))) (fun h => h) (R := 0 + 1) (duties_later Sv c .cred)) $$ [Hc] with Hc
  · isplitr; · iapply (recs_cell Sv K ιs (c, .cred)) $$ HR
    iexact Hc
  imod (Rounds.cell_close ER (ringRd Sv) (Set.mem_univ (K (c, .send))) (fun h => h) (R := 24) (duties_later Sv c .send)) $$ [Hs] with Hs
  · isplitr; · iapply (recs_cell Sv K ιs (c, .send)) $$ HR
    iexact Hs
  imod (Rounds.cell_close ER (ringRd Sv) (Set.mem_univ (K (c, .recv 0))) (fun h => h) (R := 8) (duties_later Sv c (.recv 0))) $$ [H0] with H0
  · isplitr; · iapply (recs_cell Sv K ιs (c, .recv 0)) $$ HR
    iexact H0
  imod (Rounds.cell_close ER (ringRd Sv) (Set.mem_univ (K (c, .recv 1))) (fun h => h) (R := 8) (duties_later Sv c (.recv 1))) $$ [H1] with H1
  · isplitr; · iapply (recs_cell Sv K ιs (c, .recv 1)) $$ HR
    iexact H1
  imod (Rounds.cell_close ER (ringRd Sv) (Set.mem_univ (K (c, .recv 2))) (fun h => h) (R := 8) (duties_later Sv c (.recv 2))) $$ [H2] with H2
  · isplitr; · iapply (recs_cell Sv K ιs (c, .recv 2)) $$ HR
    iexact H2
  imodintro
  isplitl [Hs]; · iexact Hs
  isplitl [H0]; · iexact H0
  isplitl [H1]; · iexact H1
  isplitl [H2]; · iexact H2
  iexact Hc

end Ends

end Cert.RingProof

end
-- ==== Proof.Vals.lean ====
/-
  What the ring carries, over any element carrier: device `c`'s partial sum at each hop of each grid point and its
  block of the result; and the kernel's printed conditions and addressed devices, read.
-/
module

public import proofs.«01_k».proof.Proof.Entry
public import Idealize.ShloMosaic.Lib.Pipeline.Value

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The values -/

section Values

variable (x : Dev nD → S4096x1024.Idx → Elt F .fp8e4m3) (w : Dev nD → ℕ → Vec F S1024x1024 .fp8e5m2) (sx sw : Dev nD → Elt F .f32)

/-- The chunk of the own block of `x` the hop `r` multiplies. -/
abbrev R1 (c : Dev nD) (r : Fin 3) : Rect S4096x1024 :=
  Rect.unit (s := S4096x1024) (k0_off1 c (BitVec.ofNat 32 r.val)) S1024x1024.size (k0_off1_inb c r)
/-- The chunk of the own block of `x` of the device's own rows. -/
abbrev R2 (c : Dev nD) : Rect S4096x1024 := Rect.unit (s := S4096x1024) (k0_off2 c) S1024x1024.size (k0_off2_inb c)

def sent0 (c : Dev nD) (t : ℕ) : FVec F S1024x1024 .bf16 := k0_pay2 (View.ld (x c) (R1 c 0)) (w c t)
def acc1 (c : Dev nD) (t : ℕ) : FVec F S1024x1024 .bf16 := k0_pay3 (View.ld (x c) (R1 c 1)) (w c t) (lift1 (sent0 x w (prv c) t))
def sent1 (c : Dev nD) (t : ℕ) : FVec F S1024x1024 .bf16 := k0_pay4 (acc1 x w c t)
def sent2 (c : Dev nD) (t : ℕ) : FVec F S1024x1024 .bf16 := k0_pay5 (View.ld (x c) (R1 c 2)) (w c t) (lift1 (sent1 x w (prv c) t))
def acc3 (c : Dev nD) (t : ℕ) : FVec F S1024x1024 .f32 := k0_pay6 (View.ld (x c) (R2 c)) (w c t) (lift1 (sent2 x w (prv c) t))
/-- The device's block of the result at point `t`. -/
def outV (c : Dev nD) (t : ℕ) : FVec F S1024x1024 .f32 := k0_pay1 (acc3 x w c t) (k0_pay7 (sx c) (sw c))

/-- The partial sum sent at hop number `n`. -/
def Sval (c : Dev nD) (n : ℕ) : FVec F S1024x1024 .bf16 :=
  if n % 3 = 0 then sent0 x w c (n / 3) else if n % 3 = 1 then sent1 x w c (n / 3) else sent2 x w c (n / 3)

theorem Sval_0 (c : Dev nD) (t : ℕ) : Sval x w c (3 * t + (0 : Fin 3).val) = sent0 x w c t := by
  show Sval x w c (3 * t + 0) = _
  unfold Sval; rw [if_pos (show (3 * t + 0) % 3 = 0 by omega), show (3 * t + 0) / 3 = t by omega]
theorem Sval_1 (c : Dev nD) (t : ℕ) : Sval x w c (3 * t + (1 : Fin 3).val) = sent1 x w c t := by
  show Sval x w c (3 * t + 1) = _
  unfold Sval; rw [if_neg (show ¬ (3 * t + 1) % 3 = 0 by omega), if_pos (show (3 * t + 1) % 3 = 1 by omega), show (3 * t + 1) / 3 = t by omega]
theorem Sval_2 (c : Dev nD) (t : ℕ) : Sval x w c (3 * t + (2 : Fin 3).val) = sent2 x w c t := by
  show Sval x w c (3 * t + 2) = _
  unfold Sval; rw [if_neg (show ¬ (3 * t + 2) % 3 = 0 by omega), if_neg (show ¬ (3 * t + 2) % 3 = 1 by omega), show (3 * t + 2) / 3 = t by omega]

end Values

/-- Loading all of it. -/
theorem ld_all {e : EltTy} (X : S1024x1024.Idx → Elt F e) :
    View.ld X (Rect.unit (s := S1024x1024) ![0, 0] S1024x1024.size inb_S1024x1024_S1024x1024_0_0) = X :=
  View.ld_unit_zero (funext fun a => by fin_cases a <;> rfl) _ X

/-! ## The conditions and the devices -/

theorem coord_lt (i : grid0.Coords) : (i 0).val < 8 := (i 0).isLt

theorem cond1_iff (i : grid0.Coords) : k0_cond1 i = 1#1 ↔ (i 0).val = 0 := by
  have h := coord_lt i
  unfold k0_cond1
  generalize (i 0).val = v at h
  revert h; revert v; decide
theorem cond3_iff (i : grid0.Coords) : k0_cond3 i = 1#1 ↔ (i 0).val < 7 := by
  have h := coord_lt i
  unfold k0_cond3
  generalize (i 0).val = v at h
  revert h; revert v; decide
theorem cond5_iff (i : grid0.Coords) : k0_cond5 i = 1#1 ↔ (i 0).val < 7 := by
  have h := coord_lt i
  unfold k0_cond5
  generalize (i 0).val = v at h
  revert h; revert v; decide
theorem cond7_iff (i : grid0.Coords) : k0_cond7 i = 1#1 ↔ (i 0).val < 7 := by
  have h := coord_lt i
  unfold k0_cond7
  generalize (i 0).val = v at h
  revert h; revert v; decide
theorem condW_iff (i : grid0.Coords) : Scalar.cmpi .ne (Scalar.extui (Scalar.cmpi .sge (BitVec.ofNat 32 (i 0).val) 1#32) : BitVec 32) 0#32 = 1#1 ↔ 1 ≤ (i 0).val := by
  have h := coord_lt i
  generalize (i 0).val = v at h
  revert h; revert v; decide

theorem dev1_eq (c : Dev nD) (h) : (⟨k0_dev1 c, h⟩ : Dev nD) = prv c := Fin.ext (by revert c; decide)
theorem dev2_eq (c : Dev nD) (h) : (⟨k0_dev2 c, h⟩ : Dev nD) = nxt c := Fin.ext (by revert c; decide)
theorem dev3_eq (c : Dev nD) (h) : (⟨k0_dev3 c, h⟩ : Dev nD) = nxt c := Fin.ext (by revert c; decide)
theorem dev4_eq (c : Dev nD) (h) : (⟨k0_dev4 c, h⟩ : Dev nD) = prv c := Fin.ext (by revert c; decide)
theorem dev5_eq (c : Dev nD) (h) : (⟨k0_dev5 c, h⟩ : Dev nD) = nxt c := Fin.ext (by revert c; decide)
theorem dev6_eq (c : Dev nD) (h) : (⟨k0_dev6 c, h⟩ : Dev nD) = prv c := Fin.ext (by revert c; decide)
theorem dev7_eq (c : Dev nD) (h) : (⟨k0_dev7 c, h⟩ : Dev nD) = nxt c := Fin.ext (by revert c; decide)
theorem dev8_eq (c : Dev nD) (h) : (⟨k0_dev8 c, h⟩ : Dev nD) = prv c := Fin.ext (by revert c; decide)

end Cert.RingProof

end
-- ==== Proof.Parts.lean ====
/-
  The six pieces of the kernel's body, each run once at a symbolic device and grid point `t`: what it takes and what it
  leaves.
-/
module

public import proofs.«01_k».proof.Proof.Vals

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

theorem hs0 : (sendM).IsWhole := Memref.isWhole_whole _
theorem hs1 : (recvM).IsWhole := Memref.isWhole_whole _

/-- The one index of a scale. -/
def i0 : S1.Idx := Shape.Idx.first Nat.one_pos

theorem wpc_ret {α : Type} {Q : α → sProp 𝕄} (c : Dev nD) (v : α) : Q v ⊢ wpc c (.ret v) Q := by
  show Q v ⊢ wp frame (wpE (defs₀ (F := F)) 𝒱₀ (c : Thread nD τ) none) Set.univ (.ret v) Q
  rw [wp_ret]; exact fupd_intro

/-- A read of the one word of a scale. -/
theorem ld_smem (X : S1.Idx → Elt F .f32) (j : (Rect.unit (s := S1) ![0] S1.size inb_S1_S1_0).toLoadRect.shape.Idx) :
    View.ld X (Rect.unit (s := S1) ![0] S1.size inb_S1_S1_0) j = X i0 :=
  congrArg X (by have : Subsingleton S1.Idx := ⟨by decide⟩; exact Subsingleton.elim _ _)

section Parts

variable (i : grid0.Coords)
  (a1 : Memref sig .tc .smem S1 .f32) (h1 : a1.IsWhole) (a2 : Memref sig .tc .smem S1 .f32) (h2 : a2.IsWhole)
  (a3 : Memref sig .tc .vmem S4096x1024 .fp8e4m3) (h3 : a3.IsWhole) (a4 : Memref sig .tc .vmem S1024x1024 .fp8e5m2) (h4 : a4.IsWhole)
  (a5 : Memref sig .tc .vmem S1024x1024 .f32) (h5 : a5.IsWhole)

variable (K : Dev nD × Role → ℕ) (ιs : Dev nD × Fin 3 → ℕ) (c : Dev nD) (t : ℕ)
variable (x : Dev nD → S4096x1024.Idx → Elt F .fp8e4m3) (w : Dev nD → ℕ → Vec F S1024x1024 .fp8e5m2)

/-- The wait of the sender's side. -/
theorem wait_sendD {α : Type} {Q : α → sProp 𝕄} (n j : ℕ) (hn : n < 24) (h : Fin 3)
    {hs : (slotM h).view.WordExact} {hd : sendM.view.WordExact} {k : PUnit → Prog (TpuEff nD τ sig (Elt F) Λ₀ .tc) α} :
    iprop(recs (Sval x w) K ιs ∗ sendPend c n ∗ OwesC c (n + 1) j)
      ⊢ iprop((sendSt c (n + 1) ∗ (∃ V, owns (c : Thread nD τ) sendM fullShare V) ∗ OwesC c (n + 1) j -∗ wpc c (k ⟨⟩) Q)
          -∗ wpc c (.op (.waitDma2 sendS (slotM h) sendM hs hd) k) Q) :=
  wait_send (Sval x w) K ιs c n j hn (wpE_waitDma2_eq 𝒱₀ (c : Thread nD τ) none Set.univ)

/-- The wait of the receiver's side. -/
theorem wait_recvD {α : Type} {Q : α → sProp 𝕄} (h : Fin 3) (h8 : t < 8)
    {hs : sendM.view.WordExact} {hd : (slotM h).view.WordExact} {k : PUnit → Prog (TpuEff nD τ sig (Elt F) Λ₀ .tc) α} :
    iprop(recs (Sval x w) K ιs ∗ atPos ER (recvCell c h) t ∅ 0 ∗ cred (tallyAt (recvCell c h) (3 * t + h.val) N)
        ∗ OwesC c (3 * t + h.val + 1) (3 * t + h.val))
      ⊢ iprop((atPos ER (recvCell c h) (t + 1) ∅ 0 ∗ reached ER (recvCell c h) (t + 1)
            ∗ owns (c : Thread nD τ) (slotM h) fullShare (Sval x w (prv c) (3 * t + h.val))
            ∗ OwesC c (3 * t + h.val + 1) (3 * t + h.val) -∗ wpc c (k ⟨⟩) Q)
          -∗ wpc c (.op (.waitDma2 (recvS h) sendM (slotM h) hs hd) k) Q) :=
  wait_recv (Sval x w) K ιs c h t h8 (fun Kt => by
    rw [wpE_waitDma2_eq 𝒱₀ (c : Thread nD τ) none Set.univ, slot_credit])

/-- A chunk of the own block of `x`, at the chunk's own shape. -/
def ldx (X : S4096x1024.Idx → Elt F .fp8e4m3) (off : Fin S4096x1024.rank → ℕ) (inb : ∀ a, off a + S1024x1024.size a ≤ S4096x1024.size a) :
    Vec F S1024x1024 .fp8e4m3 := View.ld X (Rect.unit (s := S4096x1024) off S1024x1024.size inb)

theorem load_x {α : Type} {Q : α → sProp 𝕄} {off : Fin S4096x1024.rank → ℕ} {inb : ∀ a, off a + S1024x1024.size a ≤ S4096x1024.size a}
    {hl : a3.view.LoadsAt (Rect.unit (s := S4096x1024) off S1024x1024.size inb).toLoadRect}
    {k : Vec F S1024x1024 .fp8e4m3 → Prog (TpuEff nD τ sig (Elt F) Λ₀ .tc) α} {q : PosShare TreeShare} {X : S4096x1024.Idx → Elt F .fp8e4m3} :
    (owns (c : Thread nD τ) a3 q X : sProp 𝕄)
      ⊢ iprop((owns (c : Thread nD τ) a3 q X -∗ wpc c (k (ldx X off inb)) Q)
          -∗ wpc c (.op (.load a3 (Rect.unit (s := S4096x1024) off S1024x1024.size inb).toLoadRect hl) k) Q) :=
  load_owns c (m := a3) (r := Rect.unit (s := S4096x1024) off S1024x1024.size inb) (k := k) (X := X)

theorem load_slot0 {α : Type} {Q : α → sProp 𝕄} {hl : recvM.view.LoadsAt (Rect.unit (s := S3x1024x1024) ![0, 0, 0] S1x1024x1024.size inb_S3x1024x1024_S1x1024x1024_0_0_0).toLoadRect}
    {k : Vec F S1x1024x1024 .bf16 → Prog (TpuEff nD τ sig (Elt F) Λ₀ .tc) α} {X : FVec F S1024x1024 .bf16} :
    (owns (c : Thread nD τ) (slotM 0) fullShare X : sProp 𝕄)
      ⊢ iprop((owns (c : Thread nD τ) (slotM 0) fullShare X -∗ wpc c (k (lift1 X)) Q)
          -∗ wpc c (.op (.load recvM (Rect.unit (s := S3x1024x1024) ![0, 0, 0] S1x1024x1024.size inb_S3x1024x1024_S1x1024x1024_0_0_0).toLoadRect hl) k) Q) :=
  load_slot c (m := recvM) (r := Rect.unit (s := S3x1024x1024) ![0, 0, 0] S1x1024x1024.size inb_S3x1024x1024_S1x1024x1024_0_0_0) (fun _ => rfl) squeezes_S1x1024x1024_S1024x1024

theorem load_slot1 {α : Type} {Q : α → sProp 𝕄} {hl : recvM.view.LoadsAt (Rect.unit (s := S3x1024x1024) ![1, 0, 0] S1x1024x1024.size inb_S3x1024x1024_S1x1024x1024_1_0_0).toLoadRect}
    {k : Vec F S1x1024x1024 .bf16 → Prog (TpuEff nD τ sig (Elt F) Λ₀ .tc) α} {X : FVec F S1024x1024 .bf16} :
    (owns (c : Thread nD τ) (slotM 1) fullShare X : sProp 𝕄)
      ⊢ iprop((owns (c : Thread nD τ) (slotM 1) fullShare X -∗ wpc c (k (lift1 X)) Q)
          -∗ wpc c (.op (.load recvM (Rect.unit (s := S3x1024x1024) ![1, 0, 0] S1x1024x1024.size inb_S3x1024x1024_S1x1024x1024_1_0_0).toLoadRect hl) k) Q) :=
  load_slot c (m := recvM) (r := Rect.unit (s := S3x1024x1024) ![1, 0, 0] S1x1024x1024.size inb_S3x1024x1024_S1x1024x1024_1_0_0) (fun _ => rfl) squeezes_S1x1024x1024_S1024x1024

theorem load_slot2 {α : Type} {Q : α → sProp 𝕄} {hl : recvM.view.LoadsAt (Rect.unit (s := S3x1024x1024) ![2, 0, 0] S1x1024x1024.size inb_S3x1024x1024_S1x1024x1024_2_0_0).toLoadRect}
    {k : Vec F S1x1024x1024 .bf16 → Prog (TpuEff nD τ sig (Elt F) Λ₀ .tc) α} {X : FVec F S1024x1024 .bf16} :
    (owns (c : Thread nD τ) (slotM 2) fullShare X : sProp 𝕄)
      ⊢ iprop((owns (c : Thread nD τ) (slotM 2) fullShare X -∗ wpc c (k (lift1 X)) Q)
          -∗ wpc c (.op (.load recvM (Rect.unit (s := S3x1024x1024) ![2, 0, 0] S1x1024x1024.size inb_S3x1024x1024_S1x1024x1024_2_0_0).toLoadRect hl) k) Q) :=
  load_slot c (m := recvM) (r := Rect.unit (s := S3x1024x1024) ![2, 0, 0] S1x1024x1024.size inb_S3x1024x1024_S1x1024x1024_2_0_0) (fun _ => rfl) squeezes_S1x1024x1024_S1024x1024

theorem pay2_eq : k0_pay2 (ldx (x c) (k0_off1 c 0#32) (k0_off1_inb c 0)) (w c t) = sent0 x w c t := rfl
theorem pay3_eq : k0_pay3 (ldx (x c) (k0_off1 c 1#32) (k0_off1_inb c 1)) (w c t) (lift1 (Sval x w (prv c) (3 * t + (0 : Fin 3).val))) = acc1 x w c t := by
  rw [Sval_0]; rfl
theorem pay5_eq : k0_pay5 (ldx (x c) (k0_off1 c 2#32) (k0_off1_inb c 2)) (w c t) (lift1 (Sval x w (prv c) (3 * t + 1))) = sent2 x w c t := by
  have e := Sval_1 x w (prv c) t
  rw [show 3 * t + (1 : Fin 3).val = 3 * t + 1 from rfl] at e
  rw [e]; rfl
theorem pay6_eq : k0_pay6 (ldx (x c) (k0_off2 c) (k0_off2_inb c)) (w c t) (lift1 (Sval x w (prv c) (3 * t + (2 : Fin 3).val))) = acc3 x w c t := by
  rw [Sval_2]; rfl

/-- What the first piece returns. -/
abbrev Ret1 : Type := Σ' (_ : BitVec 32) (_ : Dev nD) (_ : BitVec 32) (_ : BitVec 32) (_ : BitVec 32) (_ : BitVec 32) (_ : BitVec 32), BitVec 32

/-- The first piece at the first point: the entry barrier. -/
theorem part1_first (h0 : (i 0).val = 0) {Q : Ret1 → sProp 𝕄} :
    iprop(recs (Sval x w) K ιs ∗ entrySt c ∗ ∃ W, owes (c : Thread nD τ) (O₀ c) W)
      ⊢ iprop((∀ v2 v14 v25 v32 u1 u2, (semVal (barCell c) 0 ∗ rel (nxt c) 0 ∗ relS c 0 ∗ Res c 0 0 ∗ Res c 1 0 ∗ Res c 2 0 ∗ OwesC c 0 0)
              -∗ Q ⟨BitVec.ofNat 32 (i 0).val, c, v2, v14, v25, v32, u1, u2⟩)
          -∗ wpc c (k0_part1 i a1 h1 a2 h2 a3 h3 a4 h4 a5 h5 sendM hs0 recvM hs1 cc0_scratch2 cc0_scratch3 cc0_scratch4) Q) := by
  rw [k0_part1_eq_skeleton]; unfold k0_part1_skel
  simp only [semSignalWord, semWaitWord, Prog.lift, Prog.bind_op, Prog.bind_ret, Prog.pure_eq_ret, wp_deviceId]
  rw [dif_pos ((cond1_iff i).mpr h0)]
  iintro ⟨#HR, He, HO⟩ Hk
  iapply (entry (Sval x w) K ιs c _ _ (dev1_eq c _) (dev2_eq c _) rfl rfl rfl) $$ [He HO]
  · isplitr; · iexact HR
    isplitl [He] <;> iassumption
  iintro H
  iapply (wpc_ret c)
  iapply Hk
  iexact H

/-- The first piece at a later point: nothing. -/
theorem part1_later (h0 : ¬ (i 0).val = 0) {Q : Ret1 → sProp 𝕄} :
    (iprop(∀ v2 v14 v25 v32 u1 u2, Q ⟨BitVec.ofNat 32 (i 0).val, c, v2, v14, v25, v32, u1, u2⟩) : sProp 𝕄)
      ⊢ wpc c (k0_part1 i a1 h1 a2 h2 a3 h3 a4 h4 a5 h5 sendM hs0 recvM hs1 cc0_scratch2 cc0_scratch3 cc0_scratch4) Q := by
  rw [k0_part1_eq_skeleton]; unfold k0_part1_skel
  simp only [semSignalWord, semWaitWord, Prog.lift, Prog.bind_op, Prog.bind_ret, Prog.pure_eq_ret, wp_deviceId]
  rw [dif_neg (fun hh => h0 ((cond1_iff i).mp hh))]
  iintro Hk
  iapply (wpc_ret c)
  iapply Hk

set_option maxHeartbeats 2000000 in
/-- The second piece: the first partial sum into the send buffer, and its transfer. -/
theorem part2 (ht : (i 0).val = t) (v25 v32 u1 u2 : BitVec 32) {q3 q4 : PosShare TreeShare} {Q : PUnit → sProp 𝕄} :
    iprop(recs (Sval x w) K ιs ∗ rel (nxt c) 0 ∗ credSt c (3 * t - 3) ∗ OwesC c (3 * t) (3 * t) ∗ sendSt c (3 * t) ∗ Toks c 0 t ∗ owns (c : Thread nD τ) a3 q3 (x c) ∗ owns (c : Thread nD τ) a4 q4 (w c t) ∗ (∃ V, owns (c : Thread nD τ) sendM fullShare V))
      ⊢ iprop((sendPend c (3 * t) ∗ Toks c 0 (t + 1) ∗ cred (tallyAt (recvCell c 0) (3 * t) N) ∗ OwesC c (3 * t + 1) (3 * t) ∗ credSt c (3 * t + 1 - 3) ∗ owns (c : Thread nD τ) a3 q3 (x c) ∗ owns (c : Thread nD τ) a4 q4 (w c t) -∗ Q ⟨⟩)
          -∗ wpc c (k0_part2 i a1 h1 a2 h2 a3 h3 a4 h4 a5 h5 sendM hs0 recvM hs1 cc0_scratch2 cc0_scratch3 cc0_scratch4 (BitVec.ofNat 32 (i 0).val) c v25 v32 u1 u2) Q) := by
  have h8 : t < 8 := ht ▸ coord_lt i
  rw [k0_part2_eq_skeleton]; unfold k0_part2_skel
  simp only [semSignalWord, semWaitWord, Prog.lift, Prog.bind_op, Prog.bind_ret, Prog.pure_eq_ret, wp_deviceId]
  iintro ⟨#HR, #Hrel, Hcs, HO, Hs, Ht, H3, H4, ⟨%V, HV⟩⟩ Hk
  iapply (load_x a3 c) $$ H3
  iintro H3
  iapply (load_owns c) $$ H4
  iintro H4
  rw [ld_all, pay2_eq]
  iapply (load_owns c) $$ HV
  iintro HV
  iapply (store_owns c) $$ HV
  iintro HV
  iapply (wait_credit (Sval x w) K ιs c (0 : Fin 3) t h8 ((condW_iff i).trans (by rw [ht])) rfl) $$ [Hcs HO]
  · isplitr; · iexact HR
    isplitr; · iexact Hrel
    isplitl [Hcs]; · iexact Hcs
    iexact HO
  iintro ⟨#Hok, Hcs, HO⟩
  iapply (send_hop (Sval x w) K ιs c (0 : Fin 3) t (3 * t) h8 _ (dev3_eq c _) (sent0 x w c t) (Sval_0 x w c t).symm) $$ [Hs Ht HV HO]
  · isplitr; · iexact HR
    isplitr; · iexact Hok
    isplitl [Hs]; · iexact Hs
    isplitl [Ht]; · iexact Ht
    isplitl [HV]; · iexact HV
    iexact HO
  iintro ⟨Hs, Ht, Hcr, HO⟩
  iapply (wpc_ret c)
  iapply Hk
  isplitl [Hs]; · iexact Hs
  isplitl [Ht]; · iexact Ht
  isplitl [Hcr]; · iexact Hcr
  isplitl [HO]; · iexact HO
  isplitl [Hcs]; · iexact Hcs
  isplitl [H3]; · iexact H3
  iexact H4

set_option maxHeartbeats 2000000 in
/-- The third piece: the first transfer is waited for, on both sides, and the second partial sum is formed. -/
theorem part3 (ht : (i 0).val = t) (v2 v25 : BitVec 32) {q3 q4 : PosShare TreeShare} {Q : FVec F S1024x1024 .bf16 → sProp 𝕄} :
    iprop(recs (Sval x w) K ιs ∗ sendPend c (3 * t) ∗ atPos ER (recvCell c 0) t ∅ 0 ∗ cred (tallyAt (recvCell c 0) (3 * t) N) ∗ OwesC c (3 * t + 1) (3 * t) ∗ owns (c : Thread nD τ) a3 q3 (x c) ∗ owns (c : Thread nD τ) a4 q4 (w c t))
      ⊢ iprop((sendSt c (3 * t + 1) ∗ (∃ V, owns (c : Thread nD τ) sendM fullShare V) ∗ atPos ER (recvCell c 0) (t + 1) ∅ 0 ∗ reached ER (recvCell c 0) (t + 1) ∗ owns (c : Thread nD τ) (slotM 0) fullShare (Sval x w (prv c) (3 * t)) ∗ OwesC c (3 * t + 1) (3 * t) ∗ owns (c : Thread nD τ) a3 q3 (x c) ∗ owns (c : Thread nD τ) a4 q4 (w c t) -∗ Q (acc1 x w c t))
          -∗ wpc c (k0_part3 i a1 h1 a2 h2 a3 h3 a4 h4 a5 h5 sendM hs0 recvM hs1 cc0_scratch2 cc0_scratch3 cc0_scratch4 c v2 v25) Q) := by
  have h8 : t < 8 := ht ▸ coord_lt i
  rw [k0_part3_eq_skeleton]; unfold k0_part3_skel
  simp only [semSignalWord, semWaitWord, Prog.lift, Prog.bind_op, Prog.bind_ret, Prog.pure_eq_ret, wp_deviceId]
  iintro ⟨#HR, Hs, Hat, Hcr, HO, H3, H4⟩ Hk
  iapply (wait_sendD K ιs c x w (3 * t) (3 * t) (by omega) 0) $$ [Hs HO]
  · isplitr; · iexact HR
    isplitl [Hs]; · iexact Hs
    iexact HO
  iintro ⟨Hs, HV, HO⟩
  iapply (wait_recvD K ιs c t x w 0 h8) $$ [Hat Hcr HO]
  · isplitr; · iexact HR
    isplitl [Hat]; · iexact Hat
    isplitl [Hcr]; · iexact Hcr
    iexact HO
  iintro ⟨Hat, Hre, Hsl, HO⟩
  iapply (load_x a3 c) $$ H3
  iintro H3
  iapply (load_owns c) $$ H4
  iintro H4
  iapply (load_slot0 c) $$ Hsl
  iintro Hsl
  rw [ld_all]
  iapply (wpc_ret c)
  rw [pay3_eq]
  iapply Hk
  isplitl [Hs]; · iexact Hs
  isplitl [HV]; · iexact HV
  isplitl [Hat]; · iexact Hat
  isplitl [Hre]; · iexact Hre
  isplitl [Hsl]; · iexact Hsl
  isplitl [HO]; · iexact HO
  isplitl [H3]; · iexact H3
  iexact H4

set_option maxHeartbeats 2000000 in
/-- The fourth piece: the second partial sum is stored, the slot read is given back, and the second transfer is made and waited for. -/
theorem part4 (ht : (i 0).val = t) (v2 v14 v25 : BitVec 32) (V0 : FVec F S1024x1024 .bf16) {Q : (Σ' (_ : BitVec 32) (_ : BitVec 32), BitVec 1) → sProp 𝕄} :
    iprop(recs (Sval x w) K ιs ∗ rel (nxt c) 0 ∗ (∃ V, owns (c : Thread nD τ) sendM fullShare V) ∗ GiveToks c (3 * t) ∗ relS c (3 * t) ∗ Res c 0 t ∗ reached ER (recvCell c 0) (t + 1) ∗ owns (c : Thread nD τ) (slotM 0) fullShare (V0) ∗ OwesC c (3 * t + 1) (3 * t) ∗ credSt c (3 * t + 1 - 3) ∗ sendSt c (3 * t + 1) ∗ Toks c 1 t ∗ atPos ER (recvCell c 1) t ∅ 0)
      ⊢ iprop((∀ v p, GiveToks c (3 * t + 1) ∗ relS c (3 * t + 1) ∗ Res c 0 (t + 1) ∗ credSt c (3 * t + 2 - 3) ∗ sendSt c (3 * t + 2) ∗ Toks c 1 (t + 1) ∗ (∃ V, owns (c : Thread nD τ) sendM fullShare V) ∗ atPos ER (recvCell c 1) (t + 1) ∅ 0 ∗ reached ER (recvCell c 1) (t + 1) ∗ owns (c : Thread nD τ) (slotM 1) fullShare (Sval x w (prv c) (3 * t + 1)) ∗ OwesC c (3 * t + 2) (3 * t + 1) -∗ Q ⟨v, 4#32, p⟩)
          -∗ wpc c (k0_part4 i a1 h1 a2 h2 a3 h3 a4 h4 a5 h5 sendM hs0 recvM hs1 cc0_scratch2 cc0_scratch3 cc0_scratch4 (BitVec.ofNat 32 (i 0).val) c v2 v14 v25 (acc1 x w c t)) Q) := by
  have h8 : t < 8 := ht ▸ coord_lt i
  rw [k0_part4_eq_skeleton]; unfold k0_part4_skel
  simp only [semSignalWord, semWaitWord, Prog.lift, Prog.bind_op, Prog.bind_ret, Prog.pure_eq_ret, wp_deviceId]
  iintro ⟨#HR, #Hrel, ⟨%V, HV⟩, Hg, Hrs, HRes, Hre, Hsl, HO, Hcs, Hs, Ht, Hat⟩ Hk
  iapply (load_owns c) $$ HV
  iintro HV
  iapply (store_owns c) $$ HV
  iintro HV
  iapply (give_credit (Sval x w) K ιs c (0 : Fin 3) t h8 ((cond3_iff i).trans (by rw [ht])) (fun hh => dev4_eq c _) rfl (V0)) $$ [Hg Hrs HRes Hre Hsl HO]
  · isplitr; · iexact HR
    isplitl [Hg]; · iexact Hg
    isplitl [Hrs]; · iexact Hrs
    isplitl [HRes]; · iexact HRes
    isplitl [Hre]; · iexact Hre
    isplitl [Hsl]; · iexact Hsl
    iexact HO
  iintro ⟨Hg, Hrs, HRes, HO⟩
  iapply (wait_credit (Sval x w) K ιs c (1 : Fin 3) t h8 ((condW_iff i).trans (by rw [ht])) rfl) $$ [Hcs HO]
  · isplitr; · iexact HR
    isplitr; · iexact Hrel
    isplitl [Hcs]; · iexact Hcs
    iexact HO
  iintro ⟨#Hok, Hcs, HO⟩
  iapply (send_hop (Sval x w) K ιs c (1 : Fin 3) t (3 * t + 1) h8 _ (dev5_eq c _) (sent1 x w c t) (Sval_1 x w c t).symm) $$ [Hs Ht HV HO]
  · isplitr; · iexact HR
    isplitr; · iexact Hok
    isplitl [Hs]; · iexact Hs
    isplitl [Ht]; · iexact Ht
    isplitl [HV]; · iexact HV
    iexact HO
  iintro ⟨Hs, Ht, Hcr, HO⟩
  iapply (wait_sendD K ιs c x w (3 * t + 1) (3 * t + 1) (by omega) 1) $$ [Hs HO]
  · isplitr; · iexact HR
    isplitl [Hs]; · iexact Hs
    iexact HO
  iintro ⟨Hs, HV, HO⟩
  iapply (wait_recvD K ιs c t x w 1 h8) $$ [Hat Hcr HO]
  · isplitr; · iexact HR
    isplitl [Hat]; · iexact Hat
    isplitl [Hcr]; · iexact Hcr
    iexact HO
  iintro ⟨Hat, Hre, Hsl, HO⟩
  iapply (wpc_ret c)
  iapply Hk
  isplitl [Hg]; · iexact Hg
  isplitl [Hrs]; · iexact Hrs
  isplitl [HRes]; · iexact HRes
  isplitl [Hcs]; · iexact Hcs
  isplitl [Hs]; · iexact Hs
  isplitl [Ht]; · iexact Ht
  isplitl [HV]; · iexact HV
  isplitl [Hat]; · iexact Hat
  isplitl [Hre]; · iexact Hre
  isplitl [Hsl]; · iexact Hsl
  iexact HO

set_option maxHeartbeats 2000000 in
/-- The fifth piece: the third partial sum is formed and stored, the slot read is given back, and the last credit of the point is waited for. -/
theorem part5 (ht : (i 0).val = t) (v14 v25 v125 u : BitVec 32) (v126 : BitVec 1) {q3 q4 : PosShare TreeShare} {Q : PUnit → sProp 𝕄} :
    iprop(recs (Sval x w) K ιs ∗ rel (nxt c) 0 ∗ owns (c : Thread nD τ) a3 q3 (x c) ∗ owns (c : Thread nD τ) a4 q4 (w c t) ∗ owns (c : Thread nD τ) (slotM 1) fullShare (Sval x w (prv c) (3 * t + 1)) ∗ (∃ V, owns (c : Thread nD τ) sendM fullShare V) ∗ GiveToks c (3 * t + 1) ∗ relS c (3 * t + 1) ∗ Res c 1 t ∗ reached ER (recvCell c 1) (t + 1) ∗ OwesC c (3 * t + 2) (3 * t + 1) ∗ credSt c (3 * t + 2 - 3))
      ⊢ iprop((owns (c : Thread nD τ) a3 q3 (x c) ∗ owns (c : Thread nD τ) a4 q4 (w c t) ∗ owns (c : Thread nD τ) sendM fullShare (sent2 x w c t) ∗ GiveToks c (3 * t + 2) ∗ relS c (3 * t + 2) ∗ Res c 1 (t + 1) ∗ OwesC c (3 * t + 2) (3 * t + 2) ∗ credSt c (3 * t + 3 - 3) ∗ sendOk c 2 t -∗ Q ⟨⟩)
          -∗ wpc c (k0_part5 i a1 h1 a2 h2 a3 h3 a4 h4 a5 h5 sendM hs0 recvM hs1 cc0_scratch2 cc0_scratch3 cc0_scratch4 (BitVec.ofNat 32 (i 0).val) c v14 v25 v125 u v126) Q) := by
  have h8 : t < 8 := ht ▸ coord_lt i
  rw [k0_part5_eq_skeleton]; unfold k0_part5_skel
  simp only [semSignalWord, semWaitWord, Prog.lift, Prog.bind_op, Prog.bind_ret, Prog.pure_eq_ret, wp_deviceId]
  iintro ⟨#HR, #Hrel, H3, H4, Hsl, ⟨%V, HV⟩, Hg, Hrs, HRes, Hre, HO, Hcs⟩ Hk
  iapply (load_x a3 c) $$ H3
  iintro H3
  iapply (load_owns c) $$ H4
  iintro H4
  iapply (load_slot1 c) $$ Hsl
  iintro Hsl
  iapply (load_owns c) $$ HV
  iintro HV
  iapply (store_owns c) $$ HV
  iintro HV
  rw [ld_all, pay5_eq]
  iapply (give_credit (Sval x w) K ιs c (1 : Fin 3) t h8 ((cond5_iff i).trans (by rw [ht])) (fun hh => dev6_eq c _) rfl (Sval x w (prv c) (3 * t + 1))) $$ [Hg Hrs HRes Hre Hsl HO]
  · isplitr; · iexact HR
    isplitl [Hg]; · iexact Hg
    isplitl [Hrs]; · iexact Hrs
    isplitl [HRes]; · iexact HRes
    isplitl [Hre]; · iexact Hre
    isplitl [Hsl]; · iexact Hsl
    iexact HO
  iintro ⟨Hg, Hrs, HRes, HO⟩
  iapply (wait_credit (Sval x w) K ιs c (2 : Fin 3) t h8 ((condW_iff i).trans (by rw [ht])) rfl) $$ [Hcs HO]
  · isplitr; · iexact HR
    isplitr; · iexact Hrel
    isplitl [Hcs]; · iexact Hcs
    iexact HO
  iintro ⟨#Hok, Hcs, HO⟩
  iapply (wpc_ret c)
  iapply Hk
  isplitl [H3]; · iexact H3
  isplitl [H4]; · iexact H4
  isplitl [HV]; · iexact HV
  isplitl [Hg]; · iexact Hg
  isplitl [Hrs]; · iexact Hrs
  isplitl [HRes]; · iexact HRes
  isplitl [HO]; · iexact HO
  isplitl [Hcs]; · iexact Hcs
  iexact Hok

set_option maxHeartbeats 2000000 in
/-- The sixth piece: the third transfer is made and waited for, the whole sum is formed, the last slot is given back and the scales are read. -/
theorem part6 (ht : (i 0).val = t) (v2 v14 v25 : BitVec 32) {q1 q2 q3 q4 : PosShare TreeShare} (X1 X2 : S1.Idx → Elt F .f32) {Q : (Σ' (_ : FVec F S1024x1024 .f32), FVec F S1024x1024 .f32) → sProp 𝕄} :
    iprop(recs (Sval x w) K ιs ∗ sendOk c 2 t ∗ owns (c : Thread nD τ) sendM fullShare (sent2 x w c t) ∗ sendSt c (3 * t + 2) ∗ Toks c 2 t ∗ atPos ER (recvCell c 2) t ∅ 0 ∗ OwesC c (3 * t + 2) (3 * t + 2) ∗ owns (c : Thread nD τ) a1 q1 X1 ∗ owns (c : Thread nD τ) a2 q2 X2 ∗ owns (c : Thread nD τ) a3 q3 (x c) ∗ owns (c : Thread nD τ) a4 q4 (w c t) ∗ GiveToks c (3 * t + 2) ∗ relS c (3 * t + 2) ∗ Res c 2 t)
      ⊢ iprop((sendSt c (3 * t + 3) ∗ (∃ V, owns (c : Thread nD τ) sendM fullShare V) ∗ Toks c 2 (t + 1) ∗ atPos ER (recvCell c 2) (t + 1) ∅ 0 ∗ OwesC c (3 * t + 3) (3 * t + 3) ∗ owns (c : Thread nD τ) a1 q1 X1 ∗ owns (c : Thread nD τ) a2 q2 X2 ∗ owns (c : Thread nD τ) a3 q3 (x c) ∗ owns (c : Thread nD τ) a4 q4 (w c t) ∗ GiveToks c (3 * t + 3) ∗ relS c (3 * t + 3) ∗ Res c 2 (t + 1) -∗ Q ⟨acc3 x w c t, k0_pay7 (X1 i0) (X2 i0)⟩)
          -∗ wpc c (k0_part6 i a1 h1 a2 h2 a3 h3 a4 h4 a5 h5 sendM hs0 recvM hs1 cc0_scratch2 cc0_scratch3 cc0_scratch4 (BitVec.ofNat 32 (i 0).val) c v2 v14 v25) Q) := by
  have h8 : t < 8 := ht ▸ coord_lt i
  rw [k0_part6_eq_skeleton]; unfold k0_part6_skel
  simp only [semSignalWord, semWaitWord, Prog.lift, Prog.bind_op, Prog.bind_ret, Prog.pure_eq_ret, wp_deviceId]
  iintro ⟨#HR, #Hok, HV, Hs, Ht, Hat, HO, H1, H2, H3, H4, Hg, Hrs, HRes⟩ Hk
  iapply (send_hop (Sval x w) K ιs c (2 : Fin 3) t (3 * t + 2) h8 _ (dev7_eq c _) (sent2 x w c t) (Sval_2 x w c t).symm) $$ [Hs Ht HV HO]
  · isplitr; · iexact HR
    isplitr; · iexact Hok
    isplitl [Hs]; · iexact Hs
    isplitl [Ht]; · iexact Ht
    isplitl [HV]; · iexact HV
    iexact HO
  iintro ⟨Hs, Ht, Hcr, HO⟩
  iapply (wait_sendD K ιs c x w (3 * t + 2) (3 * t + 2) (by omega) 2) $$ [Hs HO]
  · isplitr; · iexact HR
    isplitl [Hs]; · iexact Hs
    iexact HO
  iintro ⟨Hs, HV, HO⟩
  iapply (wait_recvD K ιs c t x w 2 h8) $$ [Hat Hcr HO]
  · isplitr; · iexact HR
    isplitl [Hat]; · iexact Hat
    isplitl [Hcr]; · iexact Hcr
    iexact HO
  iintro ⟨Hat, Hre, Hsl, HO⟩
  iapply (load_x a3 c) $$ H3
  iintro H3
  iapply (load_owns c) $$ H4
  iintro H4
  iapply (load_slot2 c) $$ Hsl
  iintro Hsl
  rw [ld_all]
  iapply (give_credit (Sval x w) K ιs c (2 : Fin 3) t h8 ((cond7_iff i).trans (by rw [ht])) (fun hh => dev8_eq c _) rfl (Sval x w (prv c) (3 * t + 2))) $$ [Hg Hrs HRes Hre Hsl HO]
  · isplitr; · iexact HR
    isplitl [Hg]; · iexact Hg
    isplitl [Hrs]; · iexact Hrs
    isplitl [HRes]; · iexact HRes
    isplitl [Hre]; · iexact Hre
    isplitl [Hsl]; · iexact Hsl
    iexact HO
  iintro ⟨Hg, Hrs, HRes, HO⟩
  iapply (smem_owns c) $$ H1
  iintro H1
  iapply (smem_owns c) $$ H2
  iintro H2
  iapply (wpc_ret c)
  rw [ld_smem, ld_smem]
  rw [pay6_eq]
  iapply Hk
  isplitl [Hs]; · iexact Hs
  isplitl [HV]; · iexact HV
  isplitl [Ht]; · iexact Ht
  isplitl [Hat]; · iexact Hat
  isplitl [HO]; · iexact HO
  isplitl [H1]; · iexact H1
  isplitl [H2]; · iexact H2
  isplitl [H3]; · iexact H3
  isplitl [H4]; · iexact H4
  isplitl [Hg]; · iexact Hg
  isplitl [Hrs]; · iexact Hrs
  iexact HRes

end Parts

end Cert.RingProof

end
-- ==== Proof.Body.lean ====
/-
  The body at one grid point: the six pieces in a row. What a device holds between two points (`Mid`), what it starts from
  and what it ends with.
-/
module

public import proofs.«01_k».proof.Proof.Parts

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

theorem wpc_bind {α β : Type} (c : Dev nD) {p : Prog (TpuEff nD τ sig (Elt F) Λ₀ .tc) α} {k : α → Prog (TpuEff nD τ sig (Elt F) Λ₀ .tc) β} {Q : β → sProp 𝕄} :
    wpc c p (fun v => wpc c (k v) Q) ⊢ wpc c (p >>= k) Q := Entails.of_eq (Idealize.SL.Sem.wp_bind _ _ _ p k Q).symm

theorem wpc_ret_fupd {α : Type} {Q : α → sProp 𝕄} (c : Dev nD) (v : α) : (|={Set.univ}=> Q v) ⊢ wpc c (.ret v) Q := by
  show _ ⊢ wp frame (wpE (defs₀ (F := F)) 𝒱₀ (c : Thread nD τ) none) Set.univ (.ret v) Q
  rw [wp_ret]

section Body

variable (i : grid0.Coords)
  (a1 : Memref sig .tc .smem S1 .f32) (h1 : a1.IsWhole) (a2 : Memref sig .tc .smem S1 .f32) (h2 : a2.IsWhole)
  (a3 : Memref sig .tc .vmem S4096x1024 .fp8e4m3) (h3 : a3.IsWhole) (a4 : Memref sig .tc .vmem S1024x1024 .fp8e5m2) (h4 : a4.IsWhole)
  (a5 : Memref sig .tc .vmem S1024x1024 .f32) (h5 : a5.IsWhole)

/-- The body after its first piece. -/
def restP (v : Ret1) : Prog (TpuEff nD τ sig (Elt F) Λ₀ .tc) PUnit := do
  k0_part2 i a1 h1 a2 h2 a3 h3 a4 h4 a5 h5 sendM hs0 recvM hs1 cc0_scratch2 cc0_scratch3 cc0_scratch4 v.1 v.2.1 v.2.2.2.2.1 v.2.2.2.2.2.1 v.2.2.2.2.2.2.1 v.2.2.2.2.2.2.2
  let v99 : FVec F S1024x1024 .bf16 ← k0_part3 i a1 h1 a2 h2 a3 h3 a4 h4 a5 h5 sendM hs0 recvM hs1 cc0_scratch2 cc0_scratch3 cc0_scratch4 v.2.1 v.2.2.1 v.2.2.2.2.1
  let u : Σ' (_ : BitVec 32) (_ : BitVec 32), BitVec 1 ← k0_part4 i a1 h1 a2 h2 a3 h3 a4 h4 a5 h5 sendM hs0 recvM hs1 cc0_scratch2 cc0_scratch3 cc0_scratch4 v.1 v.2.1 v.2.2.1 v.2.2.2.1 v.2.2.2.2.1 v99
  k0_part5 i a1 h1 a2 h2 a3 h3 a4 h4 a5 h5 sendM hs0 recvM hs1 cc0_scratch2 cc0_scratch3 cc0_scratch4 v.1 v.2.1 v.2.2.2.1 v.2.2.2.2.1 u.1 u.2.1 u.2.2
  let y : Σ' (_ : FVec F S1024x1024 .f32), FVec F S1024x1024 .f32 ← k0_part6 i a1 h1 a2 h2 a3 h3 a4 h4 a5 h5 sendM hs0 recvM hs1 cc0_scratch2 cc0_scratch3 cc0_scratch4 v.1 v.2.1 v.2.2.1 v.2.2.2.1 v.2.2.2.2.1
  Prog.op (.load a5 (Rect.unit (s := S1024x1024) ![0, 0] S1024x1024.size inb_S1024x1024_S1024x1024_0_0).toLoadRect (View.loadsAt_vmem h_S1024x1024)) fun _ =>
    Prog.op (.store a5 (Rect.unit (s := S1024x1024) ![0, 0] S1024x1024.size inb_S1024x1024_S1024x1024_0_0) (k0_pay1 y.1 y.2) Finset.univ
      (View.stores_vmem_bits_univ h_S1024x1024 rfl) (.inl rfl)) fun _ => Prog.ret ⟨⟩

set_option maxRecDepth 65536 in
theorem body_eq : cc0_body (F := F) i a1 h1 a2 h2 a3 h3 a4 h4 a5 h5 sendM hs0 recvM hs1 cc0_scratch2 cc0_scratch3 cc0_scratch4
    = k0_part1 i a1 h1 a2 h2 a3 h3 a4 h4 a5 h5 sendM hs0 recvM hs1 cc0_scratch2 cc0_scratch3 cc0_scratch4 >>= restP i a1 h1 a2 h2 a3 h3 a4 h4 a5 h5 := by
  rw [cc0_body_eq_skeleton]; rfl

variable (K : Dev nD × Role → ℕ) (ιs : Dev nD × Fin 3 → ℕ) (c : Dev nD) (t : ℕ)
variable (x : Dev nD → S4096x1024.Idx → Elt F .fp8e4m3) (w : Dev nD → ℕ → Vec F S1024x1024 .fp8e5m2)

/-- What device `c` holds before point `t`, the first one's barrier behind it. -/
def Mid : sProp 𝕄 :=
  iprop(semVal (barCell c) 0 ∗ rel (nxt c) 0 ∗ sendSt c (3 * t) ∗ (∃ V, owns (c : Thread nD τ) sendM fullShare V) ∗ GiveToks c (3 * t) ∗ relS c (3 * t) ∗ credSt c (3 * t - 3)
    ∗ HopS c 0 t ∗ HopS c 1 t ∗ HopS c 2 t)

set_option maxHeartbeats 2000000 in
theorem rest_run (ht : (i 0).val = t) (v2 v14 v25 v32 u1 u2 : BitVec 32) {q1 q2 q3 q4 : PosShare TreeShare} (X1 X2 : S1.Idx → Elt F .f32) {Q : PUnit → sProp 𝕄} :
    iprop(recs (Sval x w) K ιs ∗ Mid c t ∗ OwesC c (3 * t) (3 * t) ∗ owns (c : Thread nD τ) a1 q1 X1 ∗ owns (c : Thread nD τ) a2 q2 X2 ∗ owns (c : Thread nD τ) a3 q3 (x c) ∗ owns (c : Thread nD τ) a4 q4 (w c t) ∗ (∃ V, owns (c : Thread nD τ) a5 fullShare V))
      ⊢ iprop((Mid c (t + 1) ∗ OwesC c (3 * (t + 1)) (3 * (t + 1)) ∗ owns (c : Thread nD τ) a1 q1 X1 ∗ owns (c : Thread nD τ) a2 q2 X2 ∗ owns (c : Thread nD τ) a3 q3 (x c) ∗ owns (c : Thread nD τ) a4 q4 (w c t)
            ∗ owns (c : Thread nD τ) a5 fullShare (k0_pay1 (acc3 x w c t) (k0_pay7 (X1 i0) (X2 i0))) -∗ |={Set.univ}=> Q ⟨⟩)
          -∗ wpc c (restP i a1 h1 a2 h2 a3 h3 a4 h4 a5 h5 ⟨BitVec.ofNat 32 (i 0).val, c, v2, v14, v25, v32, u1, u2⟩) Q) := by
  unfold restP Mid HopS
  iintro ⟨#HR, ⟨Hb, #Hrel, Hs, HV, Hg, Hrs, Hcs, ⟨Ha0, HR0, Ht0⟩, ⟨Ha1, HR1, Ht1⟩, ⟨Ha2, HR2, Ht2⟩⟩, HO, H1, H2, H3, H4, ⟨%Y, H5⟩⟩ Hk
  iapply (wpc_bind c)
  iapply (part2 i a1 h1 a2 h2 a3 h3 a4 h4 a5 h5 K ιs c t x w ht _ _ _ _) $$ [Hcs HO Hs Ht0 H3 H4 HV]
  · isplitr; · iexact HR
    isplitr; · iexact Hrel
    isplitl [Hcs]; · iexact Hcs
    isplitl [HO]; · iexact HO
    isplitl [Hs]; · iexact Hs
    isplitl [Ht0]; · iexact Ht0
    isplitl [H3]; · iexact H3
    isplitl [H4]; · iexact H4
    iexact HV
  iintro ⟨Hs, Ht0, Hcr, HO, Hcs, H3, H4⟩
  iapply (wpc_bind c)
  iapply (part3 i a1 h1 a2 h2 a3 h3 a4 h4 a5 h5 K ιs c t x w ht _ _) $$ [Hs Ha0 Hcr HO H3 H4]
  · isplitr; · iexact HR
    isplitl [Hs]; · iexact Hs
    isplitl [Ha0]; · iexact Ha0
    isplitl [Hcr]; · iexact Hcr
    isplitl [HO]; · iexact HO
    isplitl [H3]; · iexact H3
    iexact H4
  iintro ⟨Hs, HV, Ha0, Hre, Hsl, HO, H3, H4⟩
  iapply (wpc_bind c)
  iapply (part4 i a1 h1 a2 h2 a3 h3 a4 h4 a5 h5 K ιs c t x w ht _ _ _ (Sval x w (prv c) (3 * t))) $$ [HV Hg Hrs HR0 Hre Hsl HO Hcs Hs Ht1 Ha1]
  · isplitr; · iexact HR
    isplitr; · iexact Hrel
    isplitl [HV]; · iexact HV
    isplitl [Hg]; · iexact Hg
    isplitl [Hrs]; · iexact Hrs
    isplitl [HR0]; · iexact HR0
    isplitl [Hre]; · iexact Hre
    isplitl [Hsl]; · iexact Hsl
    isplitl [HO]; · iexact HO
    isplitl [Hcs]; · iexact Hcs
    isplitl [Hs]; · iexact Hs
    isplitl [Ht1]; · iexact Ht1
    iexact Ha1
  iintro %v %p ⟨Hg, Hrs, HR0, Hcs, Hs, Ht1, HV, Ha1, Hre, Hsl, HO⟩
  iapply (wpc_bind c)
  iapply (part5 i a1 h1 a2 h2 a3 h3 a4 h4 a5 h5 K ιs c t x w ht _ _ _ _ _) $$ [H3 H4 Hsl HV Hg Hrs HR1 Hre HO Hcs]
  · isplitr; · iexact HR
    isplitr; · iexact Hrel
    isplitl [H3]; · iexact H3
    isplitl [H4]; · iexact H4
    isplitl [Hsl]; · iexact Hsl
    isplitl [HV]; · iexact HV
    isplitl [Hg]; · iexact Hg
    isplitl [Hrs]; · iexact Hrs
    isplitl [HR1]; · iexact HR1
    isplitl [Hre]; · iexact Hre
    isplitl [HO]; · iexact HO
    iexact Hcs
  iintro ⟨H3, H4, HV, Hg, Hrs, HR1, HO, Hcs, #Hok⟩
  iapply (wpc_bind c)
  iapply (part6 i a1 h1 a2 h2 a3 h3 a4 h4 a5 h5 K ιs c t x w ht _ _ _ X1 X2) $$ [HV Hs Ht2 Ha2 HO H1 H2 H3 H4 Hg Hrs HR2]
  · isplitr; · iexact HR
    isplitr; · iexact Hok
    isplitl [HV]; · iexact HV
    isplitl [Hs]; · iexact Hs
    isplitl [Ht2]; · iexact Ht2
    isplitl [Ha2]; · iexact Ha2
    isplitl [HO]; · iexact HO
    isplitl [H1]; · iexact H1
    isplitl [H2]; · iexact H2
    isplitl [H3]; · iexact H3
    isplitl [H4]; · iexact H4
    isplitl [Hg]; · iexact Hg
    isplitl [Hrs]; · iexact Hrs
    iexact HR2
  iintro ⟨Hs, HV, Ht2, Ha2, HO, H1, H2, H3, H4, Hg, Hrs, HR2⟩
  iapply (load_owns c) $$ H5
  iintro H5
  iapply (store_owns c) $$ H5
  iintro H5
  iapply (wpc_ret_fupd c)
  iapply Hk
  isplitl [Hb Hs HV Hg Hrs Hcs Ha0 HR0 Ht0 Ha1 HR1 Ht1 Ha2 HR2 Ht2]
  · isplitl [Hb]; · iexact Hb
    isplitr; · iexact Hrel
    isplitl [Hs]; · iexact Hs
    isplitl [HV]; · iexact HV
    isplitl [Hg]; · iexact Hg
    isplitl [Hrs]; · iexact Hrs
    isplitl [Hcs]; · iexact Hcs
    isplitl [Ha0 HR0 Ht0]; · (isplitl [Ha0]; · iexact Ha0
                              isplitl [HR0]; · iexact HR0
                              iexact Ht0)
    isplitl [Ha1 HR1 Ht1]; · (isplitl [Ha1]; · iexact Ha1
                              isplitl [HR1]; · iexact HR1
                              iexact Ht1)
    isplitl [Ha2]; · iexact Ha2
    isplitl [HR2]; · iexact HR2
    iexact Ht2
  isplitl [HO]; · iexact HO
  isplitl [H1]; · iexact H1
  isplitl [H2]; · iexact H2
  isplitl [H3]; · iexact H3
  isplitl [H4]; · iexact H4
  iexact H5

/-! ## Between two points -/

/-- What device `c` starts from. -/
def Start : sProp 𝕄 :=
  iprop(∃ (K : Dev nD × Role → ℕ) (ιs : Dev nD × Fin 3 → ℕ), recs (Sval x w) K ιs ∗ entrySt c ∗ sendSt c 0 ∗ (∃ V, owns (c : Thread nD τ) sendM fullShare V) ∗ GiveToks c 0 ∗ credSt c 0
    ∗ (atPos ER (recvCell c 0) 0 ∅ 0 ∗ Toks c 0 0) ∗ (atPos ER (recvCell c 1) 0 ∅ 0 ∗ Toks c 1 0) ∗ (atPos ER (recvCell c 2) 0 ∅ 0 ∗ Toks c 2 0))

/-- What it ends with: its buffers, and every counter of its own at zero. -/
def Fin8 : sProp 𝕄 :=
  iprop((slotS (c, 0) ∗ slotS (c, 1) ∗ slotS (c, 2)) ∗ (∃ V, owns (c : Thread nD τ) sendM fullShare V) ∗ semVal (barCell c) 0
    ∗ semVal (sendCell c) 0 ∗ semVal (recvCell c 0) 0 ∗ semVal (recvCell c 1) 0 ∗ semVal (recvCell c 2) 0 ∗ semVal (credCell c) 0)

/-- Before point `n`. -/
def PhiN (n : ℕ) : sProp 𝕄 :=
  if n = 0 then Start c x w else if n = 8 then Fin8 c
  else iprop(∃ (K : Dev nD × Role → ℕ) (ιs : Dev nD × Fin 3 → ℕ), recs (Sval x w) K ιs ∗ Mid c n)

/-- and what it owes there. -/
def owedN (n : ℕ) : CellTallies nD τ sig ℕ := if n = 0 then O₀ c else Ow c (3 * n) (3 * n)

theorem phi_later (n : ℕ) (h0 : n ≠ 0) (h8 : n ≠ 8) :
    PhiN c x w n = iprop(∃ (K : Dev nD × Role → ℕ) (ιs : Dev nD × Fin 3 → ℕ), recs (Sval x w) K ιs ∗ Mid c n) := by
  unfold PhiN; rw [if_neg h0, if_neg h8]

theorem phi_next (h8 : t < 8) : iprop(recs (Sval x w) K ιs ∗ Mid c (t + 1)) ⊢ |={Set.univ}=> PhiN c x w (t + 1) := by
  by_cases h7 : t = 7
  · subst h7
    have hr : ∀ h : Fin 3, (Res c h 8 : sProp 𝕄) ⊢ slotS (c, h) := fun h => Entails.of_eq (if_neg (Nat.lt_irrefl 8))
    unfold PhiN Mid HopS Fin8
    rw [if_neg (by decide), if_pos rfl]
    iintro ⟨#HR, Hb, -, Hs, HV, -, -, Hcs, ⟨Ha0, HR0, -⟩, ⟨Ha1, HR1, -⟩, ⟨Ha2, HR2, -⟩⟩
    imod (close (Sval x w) K ιs c) $$ [Hs Ha0 Ha1 Ha2 Hcs] with Hz
    · isplitr; · iexact HR
      isplitl [Hs]; · iexact Hs
      isplitl [Ha0]; · iexact Ha0
      isplitl [Ha1]; · iexact Ha1
      isplitl [Ha2]; · iexact Ha2
      iexact Hcs
    imodintro
    isplitl [HR0 HR1 HR2]
    · isplitl [HR0]; · iapply (hr 0) $$ HR0
      isplitl [HR1]; · iapply (hr 1) $$ HR1
      iapply (hr 2) $$ HR2
    isplitl [HV]; · iexact HV
    isplitl [Hb]; · iexact Hb
    iexact Hz
  · rw [phi_later c x w (t + 1) (by omega) (by omega)]
    iintro H
    imodintro
    iexists K; iexists ιs
    iexact H

set_option maxHeartbeats 2000000 in
/-- The body at point `t`. -/
theorem point_run (ht : (i 0).val = t) {q1 q2 q3 q4 : PosShare TreeShare} (X1 X2 : S1.Idx → Elt F .f32) {Q : PUnit → sProp 𝕄} :
    iprop(PhiN c x w t ∗ (∃ W, owes (c : Thread nD τ) (owedN c t) W) ∗ owns (c : Thread nD τ) a1 q1 X1 ∗ owns (c : Thread nD τ) a2 q2 X2 ∗ owns (c : Thread nD τ) a3 q3 (x c) ∗ owns (c : Thread nD τ) a4 q4 (w c t) ∗ (∃ V, owns (c : Thread nD τ) a5 fullShare V))
      ⊢ iprop((PhiN c x w (t + 1) ∗ (∃ W, owes (c : Thread nD τ) (owedN c (t + 1)) W) ∗ owns (c : Thread nD τ) a1 q1 X1 ∗ owns (c : Thread nD τ) a2 q2 X2 ∗ owns (c : Thread nD τ) a3 q3 (x c) ∗ owns (c : Thread nD τ) a4 q4 (w c t)
            ∗ owns (c : Thread nD τ) a5 fullShare (k0_pay1 (acc3 x w c t) (k0_pay7 (X1 i0) (X2 i0))) -∗ Q ⟨⟩)
          -∗ wpc c (cc0_body i a1 h1 a2 h2 a3 h3 a4 h4 a5 h5 sendM hs0 recvM hs1 cc0_scratch2 cc0_scratch3 cc0_scratch4) Q) := by
  have h8 : t < 8 := ht ▸ coord_lt i
  have hO : (OwesC c (3 * (t + 1)) (3 * (t + 1)) : sProp 𝕄) ⊢ ∃ W, owes (c : Thread nD τ) (owedN c (t + 1)) W := by
    unfold OwesC owedN; rw [if_neg (by omega)]
  rw [body_eq]
  by_cases h0 : t = 0
  · subst h0
    rw [show PhiN c x w 0 = Start c x w from if_pos rfl, show owedN c 0 = O₀ c from if_pos rfl]
    unfold Start
    iintro ⟨⟨%K, %ιs, #HR, He, Hs, HV, Hg, Hcs, ⟨Ha0, Ht0⟩, ⟨Ha1, Ht1⟩, ⟨Ha2, Ht2⟩⟩, HO, H1, H2, H3, H4, H5⟩ Hk
    iapply (wpc_bind c)
    iapply (part1_first i a1 h1 a2 h2 a3 h3 a4 h4 a5 h5 K ιs c x w ht) $$ [He HO]
    · isplitr; · iexact HR
      isplitl [He]; · iexact He
      iexact HO
    iintro %v2 %v14 %v25 %v32 %u1 %u2 ⟨Hb, Hrel, Hrs, HR0, HR1, HR2, HO⟩
    iapply (rest_run i a1 h1 a2 h2 a3 h3 a4 h4 a5 h5 K ιs c 0 x w ht _ _ _ _ _ _ X1 X2) $$ [Hb Hrel Hs HV Hg Hrs Hcs Ha0 HR0 Ht0 Ha1 HR1 Ht1 Ha2 HR2 Ht2 HO H1 H2 H3 H4 H5]
    · isplitr; · iexact HR
      isplitl [Hb Hrel Hs HV Hg Hrs Hcs Ha0 HR0 Ht0 Ha1 HR1 Ht1 Ha2 HR2 Ht2]
      · unfold Mid HopS
        isplitl [Hb]; · iexact Hb
        isplitl [Hrel]; · iexact Hrel
        isplitl [Hs]; · iexact Hs
        isplitl [HV]; · iexact HV
        isplitl [Hg]; · iexact Hg
        isplitl [Hrs]; · iexact Hrs
        isplitl [Hcs]; · iexact Hcs
        isplitl [Ha0 HR0 Ht0]; · (isplitl [Ha0]; · iexact Ha0
                                  isplitl [HR0]; · iexact HR0
                                  iexact Ht0)
        isplitl [Ha1 HR1 Ht1]; · (isplitl [Ha1]; · iexact Ha1
                                  isplitl [HR1]; · iexact HR1
                                  iexact Ht1)
        isplitl [Ha2]; · iexact Ha2
        isplitl [HR2]; · iexact HR2
        iexact Ht2
      isplitl [HO]; · iexact HO
      isplitl [H1]; · iexact H1
      isplitl [H2]; · iexact H2
      isplitl [H3]; · iexact H3
      isplitl [H4]; · iexact H4
      iexact H5
    iintro ⟨HM, HO, Hw⟩
    imod (phi_next K ιs c 0 x w h8) $$ [HM] with HP
    · isplitr; · iexact HR
      iexact HM
    imodintro
    iapply Hk
    isplitl [HP]; · iexact HP
    isplitl [HO]; · iapply hO $$ HO
    iexact Hw
  · rw [phi_later c x w t h0 (by omega)]
    have hO' : (iprop(∃ W, owes (c : Thread nD τ) (owedN c t) W) : sProp 𝕄) ⊢ OwesC c (3 * t) (3 * t) := by
      unfold OwesC owedN; rw [if_neg h0]
    iintro ⟨⟨%K, %ιs, #HR, HM⟩, HO, H1, H2, H3, H4, H5⟩ Hk
    ihave HO := hO' $$ HO
    iapply (wpc_bind c)
    iapply (part1_later i a1 h1 a2 h2 a3 h3 a4 h4 a5 h5 c (by omega))
    iintro %v2 %v14 %v25 %v32 %u1 %u2
    iapply (rest_run i a1 h1 a2 h2 a3 h3 a4 h4 a5 h5 K ιs c t x w ht _ _ _ _ _ _ X1 X2) $$ [HM HO H1 H2 H3 H4 H5]
    · isplitr; · iexact HR
      isplitl [HM]; · iexact HM
      isplitl [HO]; · iexact HO
      isplitl [H1]; · iexact H1
      isplitl [H2]; · iexact H2
      isplitl [H3]; · iexact H3
      isplitl [H4]; · iexact H4
      iexact H5
    iintro ⟨HM, HO, Hw⟩
    imod (phi_next K ιs c t x w h8) $$ [HM] with HP
    · isplitr; · iexact HR
      iexact HM
    imodintro
    iapply Hk
    isplitl [HP]; · iexact HP
    isplitl [HO]; · iapply hO $$ HO
    iexact Hw

end Body

end Cert.RingProof

end
-- ==== Proof.Data.lean ====
/-
  The kernel's data for the pipeline: what the windows hold at each point, what a device holds and owes between points, and
  the body's obligation.
-/
module

public import proofs.«01_k».proof.Proof.Body
public import proofs.«01_k».proof.Proof.Gen.KernelIdeal.Frame

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

/-! ## The blocks -/

/-- The block of `x` device `c` holds, the same at every point. -/
def xB (c : Dev nD) : S4096x1024.Idx → Elt F .fp8e4m3 := iblk m c 2 t0_0
/-- The block of `w` at point `t`. -/
def wB (c : Dev nD) (t : ℕ) : Vec F S1024x1024 .fp8e5m2 := iblk m c 3 ⟨t % 8, by rw [show cfg0.N = 8 from N_0]; exact Nat.mod_lt _ (by decide)⟩
/-- The two scales. -/
def sxB (c : Dev nD) : S1.Idx → Elt F .f32 := iblk m c 0 t0_0
def swB (c : Dev nD) : S1.Idx → Elt F .f32 := iblk m c 1 t0_0
/-- The block of the result at point `t`. -/
def oB (c : Dev nD) (t : ℕ) : FVec F S1024x1024 .f32 := k0_pay1 (acc3 (xB m) (wB m) c t) (k0_pay7 (sxB m c i0) (swB m c i0))

theorem iblk0 (c : Dev nD) (t : Fin cfg0.N) : iblk m c 0 t = sxB m c := rfl
theorem iblk1 (c : Dev nD) (t : Fin cfg0.N) : iblk m c 1 t = swB m c := rfl
theorem iblk2 (c : Dev nD) (t : Fin cfg0.N) : iblk m c 2 t = xB m c := rfl
theorem iblk3 (c : Dev nD) (t : Fin cfg0.N) : iblk m c 3 t = wB m c t.val := by
  unfold wB; congr 1; exact Fin.ext (Nat.mod_eq_of_lt (lt_of_lt_of_eq t.isLt N_0)).symm

/-! ## The pipeline's data -/

def dats (_ : Fin 1) (c : Dev nD) : Dat τ (Elt F) ℕ ℕ UU ℕ cfg0 c where
  A w := (s₀ m ρ).mem ((cfg0.win w).arr.view.loc (c : Thread nD τ))
  after w t := match w with
    | ⟨0, _⟩ => sxB m c
    | ⟨1, _⟩ => swB m c
    | ⟨2, _⟩ => xB m c
    | ⟨3, _⟩ => wB m c t.val
    | ⟨4, _⟩ => oB m c t.val
  Φ t := PhiN c (xB m) (wB m) t.val
  q _ := fullShare
  owed t := owedN c t.val

theorem before0 (c : Dev nD) (t : Fin cfg0.N) (d) : (dats m ρ 0 c).before 0 t d = sxB m c :=
  ((dats m ρ 0 c).before_in_eq_fetched 0 rfl (fun _ => rfl) (fun _ _ _ => rfl) (fun t => rfl) t d).trans rfl
theorem before1 (c : Dev nD) (t : Fin cfg0.N) (d) : (dats m ρ 0 c).before 1 t d = swB m c :=
  ((dats m ρ 0 c).before_in_eq_fetched 1 rfl (fun _ => rfl) (fun _ _ _ => rfl) (fun t => rfl) t d).trans rfl
theorem before2 (c : Dev nD) (t : Fin cfg0.N) (d) : (dats m ρ 0 c).before 2 t d = xB m c :=
  ((dats m ρ 0 c).before_in_eq_fetched 2 rfl (fun _ => rfl) (fun _ _ _ => rfl) (fun t => rfl) t d).trans rfl
theorem before3 (c : Dev nD) (t : Fin cfg0.N) (d) : (dats m ρ 0 c).before 3 t d = wB m c t.val :=
  ((dats m ρ 0 c).before_in_eq_fetched 3 rfl (fun _ => rfl) (fun _ _ _ => rfl) (fun t => (iblk3 m c t).symm) t d).trans
    (iblk3 m c t)

theorem coords_val (t : Fin cfg0.N) : ((grid0.coords t) 0).val = t.val := by
  revert t; show ∀ t : Fin grid0.N, _; decide

theorem body_obligation (c : Dev nD) : BodyObligation (dats (F := F) m ρ 0 c) (defs₀ (F := F)) 𝒱₀ 0 Set.univ := fun t => by
  rw [bigSep_W0, bigSep_W0]
  show iprop(PhiN c (xB m) (wB m) t.val ∗ (dats m ρ 0 c).owesAt 0 t.castSucc
      ∗ (∃ d, owns (c : Thread nD τ) (st0_0 t) fullShare ((dats m ρ 0 c).before 0 t d))
      ∗ (∃ d, owns (c : Thread nD τ) (st0_1 t) fullShare ((dats m ρ 0 c).before 1 t d))
      ∗ (∃ d, owns (c : Thread nD τ) (st0_2 t) fullShare ((dats m ρ 0 c).before 2 t d))
      ∗ (∃ d, owns (c : Thread nD τ) (st0_3 t) fullShare ((dats m ρ 0 c).before 3 t d))
      ∗ (∃ d, owns (c : Thread nD τ) (st0_4 t) fullShare ((dats m ρ 0 c).before 4 t d)))
    ⊢ wpc c (bodyAt0 t) fun _ => iprop(PhiN c (xB m) (wB m) (t.val + 1) ∗ (dats m ρ 0 c).owesAt 0 t.succ
      ∗ owns (c : Thread nD τ) (st0_0 t) fullShare (sxB m c)
      ∗ owns (c : Thread nD τ) (st0_1 t) fullShare (swB m c)
      ∗ owns (c : Thread nD τ) (st0_2 t) fullShare (xB m c)
      ∗ owns (c : Thread nD τ) (st0_3 t) fullShare (wB m c t.val)
      ∗ owns (c : Thread nD τ) (st0_4 t) fullShare (oB m c t.val))
  unfold Dat.owesAt Pipeline.owesWithin
  iintro ⟨HP, ⟨%W, %hW, HO⟩, ⟨%d0, H0⟩, ⟨%d1, H1⟩, ⟨%d2, H2⟩, ⟨%d3, H3⟩, ⟨%d4, H4⟩⟩
  rw [before0, before1, before2, before3]
  iapply (point_run (grid0.coords t) (st0_0 t) _ (st0_1 t) _ (st0_2 t) _ (st0_3 t) _ (st0_4 t) _ c t.val (xB m) (wB m) (coords_val t) (sxB m c) (swB m c)) $$ [HP HO H0 H1 H2 H3 H4]
  · isplitl [HP]; · iexact HP
    isplitl [HO]; · (iexists W; iexact HO)
    isplitl [H0]; · iexact H0
    isplitl [H1]; · iexact H1
    isplitl [H2]; · iexact H2
    isplitl [H3]; · iexact H3
    iexists _; iexact H4
  iintro ⟨HP, ⟨%W', HO⟩, Hw⟩
  isplitl [HP]; · iexact HP
  isplitl [HO]
  · iexists W'
    isplitr; · ipureintro; exact fun _ _ => Or.inl trivial
    iexact HO
  iexact Hw

end Cert.RingProof

end
-- ==== Proof.Fund.lean ====
/-
  What the launch deals: the invariants of the cells and of the slots, and to each device its positions, the tokens of the
  units it gives and the tokens of the slots it writes.
-/
module

public import proofs.«01_k».proof.Proof.Data
public import Idealize.ShloMosaic.Lib.SparseCore.Launch

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (Sv : Dev nD → ℕ → FVec F S1024x1024 .bf16)

/-! ## The kernel's own semaphores -/

abbrev osem : Fin 5 → SemLoc sig
  | 0 => csem .send
  | 1 => csem (.recv 0)
  | 2 => csem (.recv 1)
  | 3 => csem (.recv 2)
  | 4 => csem .cred

theorem ownSemFacts : Pipeline.OwnSemFacts cfg0.spec osem := by decide

abbrev own0 (c : Dev nD) : sProp 𝕄 := Pipeline.ownSems0 (Ix := ℕ) (Name := ℕ) (U := UU) (Lvl := ℕ) (Val := Elt F) (τ := τ) osem c

theorem own0_eq (c : Dev nD) : (own0 c : sProp 𝕄)
    = iprop(semVal (sendCell c) 0 ∗ semVal (recvCell c 0) 0 ∗ semVal (recvCell c 1) 0 ∗ semVal (recvCell c 2) 0 ∗ semVal (credCell c) 0) := by
  unfold own0
  rw [Pipeline.ownSems0_eq_of_list c osem [0, 1, 2, 3, 4] (by decide) (by decide)]; rfl

theorem unscoped0_eq (c : Dev nD) : (unscopedSems0 c : sProp 𝕄) = semVal (barCell c) 0 := by
  unfold unscopedSems0; rw [bigSep_eq_bigSepL_of_eq [SemLoc.reg barS] (by decide) (by decide)]; rfl

/-! ## Conjunctions over the roles and the slots -/

theorem big_roles (Φ : Role → sProp 𝕄) :
    bigSep Finset.univ Φ = iprop(Φ .bar ∗ Φ .send ∗ Φ (.recv 0) ∗ Φ (.recv 1) ∗ Φ (.recv 2) ∗ Φ .cred) :=
  bigSep_univ_eq_bigSepL ([.bar, .send, .recv 0, .recv 1, .recv 2, .cred] : List Role) (by decide) (by decide) Φ
theorem big_slots (Φ : Fin 3 → sProp 𝕄) : bigSep Finset.univ Φ = iprop(Φ 0 ∗ Φ 1 ∗ Φ 2) :=
  bigSep_univ_eq_bigSepL [0, 1, 2] (by decide) (by decide) Φ

/-! ## The launch element -/

theorem kcell_injective : Function.Injective (kcell : Dev nD × Role → GSem nD τ sig) := by
  rintro ⟨c, k⟩ ⟨c', k'⟩ h
  obtain rfl : c = c' := congrArg (fun g : GSem nD τ sig => g.1.1) h
  obtain rfl : k = k' := csem_inj (congrArg Prod.snd h)
  rfl

/-- all cells of the protocol -/
def allCells : Finset (GSem nD τ sig) := Finset.univ.map ⟨kcell, kcell_injective⟩

/-- a cell's units: round and number -/
def units : Role → Finset (ℕ × ℕ)
  | .bar => {0} ×ˢ {0, 1}
  | .send => Finset.Ico 0 24 ×ˢ {0}
  | .recv _ => Finset.Ico 0 8 ×ˢ {0}
  | .cred => {0} ×ˢ Finset.Ico 0 21

abbrev unitAt (x : (_ : Dev nD × Role) × (ℕ × ℕ)) : GSem nD τ sig × ℕ × ℕ := (kcell x.1, x.2)

theorem unitAt_injective : Function.Injective unitAt := by
  rintro ⟨ck, u⟩ ⟨ck', u'⟩ h
  obtain rfl : ck = ck' := kcell_injective (congrArg Prod.fst h)
  obtain rfl : u = u' := congrArg Prod.snd h
  rfl

/-- all units of the protocol -/
def allUnits : Finset (GSem nD τ sig × ℕ × ℕ) :=
  ((Finset.univ : Finset (Dev nD × Role)).sigma fun ck => units ck.2).map ⟨unitAt, unitAt_injective⟩

def u₀ : UU :=
  (initOf (Pipeline.cells cfgs cellOf_inj) (Pipeline.launchToks cfgs cellOf_inj), (initOf allCells allUnits, initSlots Finset.univ 8))

/-! ## The parts dealt -/

def posP (c : Dev nD) : sProp 𝕄 := bigSep Finset.univ fun k : Role => atPos ER (kcell (c, k)) 0 ∅ 0
def barT0 (c : Dev nD) : sProp 𝕄 := dutyTok ER (barCell c) 0 0
def barT1 (c : Dev nD) : sProp 𝕄 := dutyTok ER (barCell c) 0 1
def sendT (c : Dev nD) : sProp 𝕄 := bigSep (Finset.Ico 0 24) fun r => dutyTok ER (sendCell c) r 0
def recvT (c : Dev nD) : sProp 𝕄 := bigSep Finset.univ fun h : Fin 3 => bigSep (Finset.Ico 0 8) fun r => dutyTok ER (recvCell c h) r 0
def credT (c : Dev nD) : sProp 𝕄 := bigSep (Finset.Ico 0 21) fun d => dutyTok ER (credCell c) 0 d
def readT (c : Dev nD) : sProp 𝕄 := bigSep Finset.univ fun h : Fin 3 => readerAt EK (c, h) 0
def writeT (c : Dev nD) : sProp 𝕄 := bigSep Finset.univ fun h : Fin 3 => bigSep (Finset.Ico 0 8) fun r => writeTok EK (c, h) (r + 1)

/-- the tokens of the units of a device's own cells -/
def toks (c : Dev nD) : sProp 𝕄 := iprop(barT0 c ∗ barT1 c ∗ sendT c ∗ recvT c ∗ credT c)

/-- what a device starts with: its positions, the tokens of the units IT gives, its slots' counts, the tokens of the slots it writes -/
def lin (c : Dev nD) : sProp 𝕄 :=
  iprop(posP c ∗ barT0 (nxt c) ∗ barT1 (prv c) ∗ sendT c ∗ recvT (nxt c) ∗ credT (prv c) ∗ readT c ∗ writeT (nxt c))

theorem units_toks (c : Dev nD) :
    (bigSep Finset.univ fun k : Role => bigSep (units k) fun u => dutyTok ER (kcell (c, k)) u.1 u.2) = (toks c : sProp 𝕄) := by
  have h1 (k : Role) : (bigSep ({0} ×ˢ {0, 1} : Finset (ℕ × ℕ)) fun u => (dutyTok ER (kcell (c, k)) u.1 u.2 : sProp 𝕄))
      = iprop(dutyTok ER (kcell (c, k)) 0 0 ∗ dutyTok ER (kcell (c, k)) 0 1) := by
    rw [SparseCore.bigSep_product, bigSep_singleton, bigSep_insert (by decide), bigSep_singleton]; rfl
  have h2 (k : Role) (n : ℕ) : (bigSep (Finset.Ico 0 n ×ˢ {0} : Finset (ℕ × ℕ)) fun u => (dutyTok ER (kcell (c, k)) u.1 u.2 : sProp 𝕄))
      = bigSep (Finset.Ico 0 n) fun r => dutyTok ER (kcell (c, k)) r 0 := by
    rw [SparseCore.bigSep_product]; exact bigSep_congr fun r _ => by rw [bigSep_singleton]
  have h3 (k : Role) (n : ℕ) : (bigSep ({0} ×ˢ Finset.Ico 0 n : Finset (ℕ × ℕ)) fun u => (dutyTok ER (kcell (c, k)) u.1 u.2 : sProp 𝕄))
      = bigSep (Finset.Ico 0 n) fun d => dutyTok ER (kcell (c, k)) 0 d := by
    rw [SparseCore.bigSep_product, bigSep_singleton]
  rw [big_roles]
  simp only [units]
  rw [h1, h2, h2, h2, h2, h3]
  unfold toks barT0 barT1 sendT recvT credT
  rw [big_slots]
  refine Entails.antisymm (show _ ⊢ (_ : sProp 𝕄) from ?_) (show _ ⊢ (_ : sProp 𝕄) from ?_)
  · iintro ⟨⟨H0, H1⟩, HS, HR0, HR1, HR2, HC⟩
    isplitl [H0]; · iexact H0
    isplitl [H1]; · iexact H1
    isplitl [HS]; · iexact HS
    isplitl [HR0 HR1 HR2]
    · isplitl [HR0]; · iexact HR0
      isplitl [HR1]; · iexact HR1
      iexact HR2
    iexact HC
  · iintro ⟨H0, H1, HS, ⟨HR0, HR1, HR2⟩, HC⟩
    isplitl [H0 H1]
    · isplitl [H0]; · iexact H0
      iexact H1
    isplitl [HS]; · iexact HS
    isplitl [HR0]; · iexact HR0
    isplitl [HR1]; · iexact HR1
    isplitl [HR2]; · iexact HR2
    iexact HC

/-- the slots' launch element, held by one device -/
def seed (c : Dev nD) : sProp 𝕄 := if c = 0 then BI.own (EK (initSlots (Finset.univ : Finset (Dev nD × Fin 3)) 8)) else iprop(emp)

theorem seed_all : (bigSep Finset.univ (seed (F := F)) : sProp 𝕄) = BI.own (EK (initSlots (Finset.univ : Finset (Dev nD × Fin 3)) 8)) := by
  have h0 : (bigSep (Finset.univ.erase (0 : Dev nD)) (seed (F := F)) : sProp 𝕄) = iprop(emp) := by
    refine (bigSep_congr (Ψ := fun _ => (iprop(emp) : sProp 𝕄)) fun c hc => ?_).trans (BI.bigSep_emp_const _)
    exact if_neg (Finset.ne_of_mem_erase hc)
  rw [bigSep_univ_at _ (0 : Dev nD), h0, show seed (F := F) 0 = _ from if_pos rfl]
  exact BI.equiv_iff.mp BI.sep_emp

/-- what the launch element gives device `c` -/
def G (c : Dev nD) : sProp 𝕄 :=
  iprop((bigSep Finset.univ fun k : Role => roundState ER (ringRd Sv) (kcell (c, k)) 0)
    ∗ posP c ∗ (bigSep Finset.univ fun k : Role => reached ER (kcell (c, k)) 0) ∗ toks c ∗ seed c)

/-- what every device then knows -/
def know (K : Dev nD × Role → ℕ) (ιs : Dev nD × Fin 3 → ℕ) : sProp 𝕄 :=
  iprop(bigSep Finset.univ (fun ck : Dev nD × Role => cellInv ER (ringRd Sv) (K ck) (kcell ck))
    ∗ bigSep Finset.univ (fun ck : Dev nD × Role => reached ER (kcell ck) 0)
    ∗ bigSep Finset.univ (fun k : Dev nD × Fin 3 => slotInv EK (ιs k) k (slotS k)))

instance know_persistent (K : Dev nD × Role → ℕ) (ιs : Dev nD × Fin 3 → ℕ) : BI.Persistent (know Sv K ιs) := by unfold know; infer_instance

/-- and holds -/
def G' (c : Dev nD) : sProp 𝕄 := iprop(∃ (K : Dev nD × Role → ℕ) (ιs : Dev nD × Fin 3 → ℕ), know Sv K ιs ∗ lin c)

theorem fund_all :
    BI.own (EBK (initOf allCells allUnits, initSlots Finset.univ 8)) ⊢ (|==> bigSep Finset.univ (G Sv) : sProp 𝕄) := by
  have hX (Φ : GSem nD τ sig → sProp 𝕄) : bigSep allCells Φ = bigSep Finset.univ fun c : Dev nD => bigSep Finset.univ fun k : Role => Φ (kcell (c, k)) := by
    unfold allCells; rw [bigSep_map, bigSep_univ_prod]; rfl
  have hT : bigSep allUnits (fun x => (dutyTok ER x.1 x.2.1 x.2.2 : sProp 𝕄)) = bigSep Finset.univ fun c : Dev nD => toks c := by
    unfold allUnits; rw [bigSep_map, Pipeline.bigSep_sigma, bigSep_univ_prod]
    exact bigSep_congr fun c _ => units_toks c
  iintro HX
  ihave H := (own_pair_emb EBK _ _) $$ HX
  icases H with ⟨HX, HK⟩
  imod (Rounds.fund ER (ringRd Sv) allCells allUnits) $$ HX with ⟨Hst, Hr, Hat, Htok⟩
  imodintro
  ihave Hst := (Entails.of_eq (hX fun g => roundState ER (ringRd Sv) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  ihave HK := (Entails.of_eq (seed_all (F := F)).symm) $$ HK
  unfold G; simp only [bigSep_sep']
  isplitl [Hst]; · iexact Hst
  isplitl [Hat]; · iexact Hat
  isplitl [Hr]; · iexact Hr
  isplitl [Htok]; · iexact Htok
  iexact HK

/-! ## The invariants -/

/-- what a device holds once its own cells' invariants stand -/
def held (c : Dev nD) : sProp 𝕄 :=
  iprop(posP c ∗ (bigSep Finset.univ fun k : Role => reached ER (kcell (c, k)) 0) ∗ toks c ∗ seed c)

theorem core_alloc (c : Dev nD) :
    iprop(own0 c ∗ unscopedSems0 c ∗ G Sv c)
      ⊢ |={Set.univ}=> iprop((bigSep Finset.univ fun k : Role => iprop(∃ κ : ℕ, cellInv ER (ringRd Sv) κ (kcell (c, k)))) ∗ held c) := by
  have hv : iprop(own0 c ∗ unscopedSems0 c) ⊢ (bigSep Finset.univ fun k : Role => semVal (kcell (c, k)) 0 : sProp 𝕄) := by
    rw [own0_eq, unscoped0_eq, big_roles]
    iintro ⟨⟨HS, H0, H1, H2, HC⟩, HB⟩
    isplitl [HB]; · iexact HB
    isplitl [HS]; · iexact HS
    isplitl [H0]; · iexact H0
    isplitl [H1]; · iexact H1
    isplitl [H2]; · iexact H2
    iexact HC
  have hi : iprop((bigSep Finset.univ fun k : Role => semVal (kcell (c, k)) 0) ∗ bigSep Finset.univ fun k : Role => roundState ER (ringRd Sv) (kcell (c, k)) 0)
      ⊢ (|={Set.univ}=> bigSep Finset.univ fun k : Role => iprop(∃ κ : ℕ, cellInv ER (ringRd Sv) κ (kcell (c, k))) : sProp 𝕄) := by
    rw [← bigSep_sep']
    exact (bigSep_mono fun k _ => (Rounds.body_intro ER (ringRd Sv) (kcell (c, k))).trans inv_alloc).trans (bigSep_fupd _ _)
  unfold G held
  iintro ⟨Hos, Hus, Hst, Hat⟩
  ihave Hv := hv $$ [Hos Hus]
  · isplitl [Hos]; · iexact Hos
    iexact Hus
  imod hi $$ [Hv Hst] with Hinv
  · isplitl [Hv]; · iexact Hv
    iexact Hst
  imodintro
  isplitl [Hinv]; · iexact Hinv
  iexact Hat

/-- The parts dealt around the ring. -/
theorem deal :
    iprop((bigSep Finset.univ fun c : Dev nD => (posP c : sProp 𝕄)) ∗ (bigSep Finset.univ fun c : Dev nD => (toks c : sProp 𝕄))
        ∗ (bigSep Finset.univ fun c : Dev nD => (readT c : sProp 𝕄)) ∗ bigSep Finset.univ fun c : Dev nD => (writeT c : sProp 𝕄))
      ⊢ bigSep Finset.univ fun c : Dev nD => (lin c : sProp 𝕄) := by
  unfold toks lin
  simp only [bigSep_sep']
  rw [bigSep_univ_equiv ring (fun c : Dev nD => (barT0 c : sProp 𝕄)),
    bigSep_univ_equiv ring.symm (fun c : Dev nD => (barT1 c : sProp 𝕄)),
    bigSep_univ_equiv ring (fun c : Dev nD => (recvT c : sProp 𝕄)),
    bigSep_univ_equiv ring.symm (fun c : Dev nD => (credT c : sProp 𝕄)),
    bigSep_univ_equiv ring (fun c : Dev nD => (writeT c : sProp 𝕄))]
  iintro ⟨Hp, ⟨H0, H1, HS, HR, HC⟩, Hr, Hw⟩
  isplitl [Hp]; · iexact Hp
  isplitl [H0]; · iexact H0
  isplitl [H1]; · iexact H1
  isplitl [HS]; · iexact HS
  isplitl [HR]; · iexact HR
  isplitl [HC]; · iexact HC
  isplitl [Hr]; · iexact Hr
  iexact Hw

/-- A persistent fact goes to every device. -/
theorem to_all {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k : Role => iprop(∃ κ : ℕ, cellInv ER (ringRd Sv) κ (kcell (c, k)))) ∗ held c) : sProp 𝕄)
      ⊢ |={Set.univ}=> bigSep Finset.univ (G' Sv) := by
  unfold held
  simp only [bigSep_sep']
  rw [← bigSep_univ_prod (fun ck : Dev nD × Role => iprop(∃ κ : ℕ, cellInv ER (ringRd Sv) κ (kcell ck))),
    ← bigSep_univ_prod (fun ck : Dev nD × Role => (reached ER (kcell ck) 0 : sProp 𝕄)), seed_all]
  iintro ⟨HI, Hat, #HR, Htok, Hseed⟩
  ihave HK := (BI.bigSep_exists_pi Finset.univ (fun (ck : Dev nD × Role) (κ : ℕ) => (cellInv ER (ringRd Sv) κ (kcell ck) : sProp 𝕄))) $$ HI
  icases HK with ⟨%K, #HI⟩
  imod (slots_init EK (Finset.univ : Finset (Dev nD × Fin 3)) 8 (fun k => (slotS k : sProp 𝕄))) $$ Hseed with ⟨%ιs, -, #HS, Hrd, Hwr⟩
  ihave Hrd := (Entails.of_eq (bigSep_univ_prod (fun k : Dev nD × Fin 3 => (readerAt EK k 0 : sProp 𝕄)))) $$ Hrd
  ihave Hwr := (Entails.of_eq (SparseCore.bigSep_product (Finset.univ : Finset (Dev nD × Fin 3)) (Finset.range 8) (fun x => (writeTok EK x.1 (x.2 + 1) : sProp 𝕄)))) $$ Hwr
  ihave Hwr := (Entails.of_eq (bigSep_univ_prod (fun k : Dev nD × Fin 3 => (bigSep (Finset.range 8) fun r => writeTok EK k (r + 1) : sProp 𝕄)))) $$ Hwr
  imodintro
  iapply (to_all (R := know Sv K ιs) (Φ := lin) (Ψ := G' Sv) fun c => by
    unfold G'; iintro ⟨H1, H2⟩; iexists K, ιs; isplitl [H1]; · iexact H1
    iexact H2)
  isplitr
  · unfold know
    isplitr; · iexact HI
    isplitr; · iexact HR
    iexact HS
  iapply (deal (F := F))
  isplitl [Hat]; · iexact Hat
  isplitl [Htok]; · iexact Htok
  unfold readT writeT
  rw [← Finset.range_eq_Ico]
  isplitl [Hrd]; · iexact Hrd
  iexact Hwr

/-- The global step: every device's semaphores at once. -/
theorem glob : (bigSep Finset.univ fun c => iprop(own0 c ∗ unscopedSems0 c ∗ G Sv c) : sProp 𝕄) ⊢ |={Set.univ}=> bigSep Finset.univ (G' Sv) := by
  have h : (bigSep Finset.univ fun c => iprop(own0 c ∗ unscopedSems0 c ∗ G Sv c) : sProp 𝕄)
      ⊢ |={Set.univ}=> bigSep Finset.univ fun c : Dev nD => iprop((bigSep Finset.univ fun k : Role => iprop(∃ κ : ℕ, cellInv ER (ringRd Sv) κ (kcell (c, k)))) ∗ held c) :=
    (bigSep_mono fun c _ => core_alloc Sv c).trans (bigSep_fupd _ _)
  iintro H
  imod h $$ H with H
  iapply (regroup Sv) $$ H

end Cert.RingProof

end
-- ==== Proof.Launch.lean ====
/-
  The launch: the credit each device waits on, the buffers it starts and ends with, and the run of the whole program from
  any memory with zero counters.
-/
module

public import proofs.«01_k».proof.Proof.Fund
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

open Idealize.ShloMosaic.Pipeline (Dat Cfg Window BodyObligation cellOf)

/-! ## The credit -/

/-- what a device's own waits are worth at launch -/
def credits (c : Dev nD) : sProp 𝕄 :=
  iprop(cred (tallyAt (barCell c) 0 2)
    ∗ (bigSep Finset.univ fun h : Fin 3 => bigSep (Finset.Ico 0 8) fun r => cred (tallyAt (recvCell c h) (3 * r + h.val) N))
    ∗ bigSep (Finset.Ico 0 21) fun i => cred (tallyAt (credCell c) i 1))

/-- hop number `3 r + h` of point `r` -/
abbrev hopAt (x : Fin 3 × ℕ) : ℕ := 3 * x.2 + x.1.val

theorem hopAt_injective : Function.Injective hopAt := by
  rintro ⟨h, r⟩ ⟨h', r'⟩ e
  have e : 3 * r + h.val = 3 * r' + h'.val := e
  have := h.isLt; have := h'.isLt
  obtain rfl : h = h' := Fin.ext (by omega)
  obtain rfl : r = r' := by omega
  rfl

theorem hops_eq : Finset.Ico 0 24 = ((Finset.univ : Finset (Fin 3)) ×ˢ Finset.Ico 0 8).map ⟨hopAt, hopAt_injective⟩ := by
  ext i
  simp only [Finset.mem_map, Finset.mem_product, Finset.mem_univ, true_and, Finset.mem_Ico, Function.Embedding.coeFn_mk, Prod.exists]
  constructor
  · rintro ⟨-, hi⟩
    exact ⟨⟨i % 3, Nat.mod_lt _ (by decide)⟩, i / 3, ⟨Nat.zero_le _, by omega⟩, Nat.div_add_mod i 3⟩
  · rintro ⟨h, r, ⟨-, hr⟩, rfl⟩
    have := h.isLt
    exact ⟨Nat.zero_le _, by show 3 * r + h.val < 24; omega⟩

theorem slotOf_hop (h : Fin 3) (r : ℕ) : slotOf (3 * r + h.val) = h := by
  have := h.isLt
  exact Fin.ext (by show (3 * r + h.val) % 3 = h.val; omega)

theorem by_hop (Φ : Fin 3 → ℕ → sProp 𝕄) :
    (bigSep (Finset.Ico 0 24) fun i => Φ (slotOf i) i) = bigSep Finset.univ fun h : Fin 3 => bigSep (Finset.Ico 0 8) fun r => Φ h (3 * r + h.val) := by
  rw [hops_eq, bigSep_map, SparseCore.bigSep_product]
  exact bigSep_congr fun h _ => bigSep_congr fun r _ => by
    show Φ (slotOf (3 * r + h.val)) (3 * r + h.val) = _
    rw [slotOf_hop]

theorem big_mono {s : Finset ℕ} {Φ Ψ : ℕ → sProp 𝕄} (h : ∀ i ∈ s, Φ i ⊢ Ψ i) : bigSep s Φ ⊢ bigSep s Ψ := bigSep_mono h

theorem launch_credits (c : Dev nD) : (Pipeline.launchCred O₀ c : sProp 𝕄) ⊢ credits c := by
  have e : (O₀ : Dev nD → CellTallies nD τ sig ℕ) = fun d => (((∑ i ∈ Finset.Ico 0 24, tallyAt (recvCell (nxt d) (slotOf i)) i N)
      + ∑ i ∈ Finset.Ico 0 21, tallyAt (credCell (prv d)) i 1) + tallyAt (barCell (nxt d)) 0 1) + tallyAt (barCell (prv d)) 0 1 := rfl
  rw [e, Pipeline.launchCred_add, Pipeline.launchCred_add, Pipeline.launchCred_add, Pipeline.launchCred_sum, Pipeline.launchCred_sum]
  unfold credits
  have hr : ∀ i : ℕ, (Pipeline.launchCred (fun d => tallyAt (recvCell (nxt d) (slotOf i)) i N) c : sProp 𝕄) ⊢ cred (tallyAt (recvCell c (slotOf i)) i N) :=
    fun i => Pipeline.launchCred_tallyAt (csem (.recv (slotOf i))) nxt prv nxt_prv prv_nxt i N c
  have hc : ∀ i : ℕ, (Pipeline.launchCred (fun d => tallyAt (credCell (prv d)) i 1) c : sProp 𝕄) ⊢ cred (tallyAt (credCell c) i 1) :=
    fun i => Pipeline.launchCred_tallyAt (csem .cred) prv nxt prv_nxt nxt_prv i 1 c
  have hb1 : (Pipeline.launchCred (fun d => tallyAt (barCell (nxt d)) 0 1) c : sProp 𝕄) ⊢ cred (tallyAt (barCell c) 0 1) :=
    Pipeline.launchCred_tallyAt (csem .bar) nxt prv nxt_prv prv_nxt 0 1 c
  have hb2 : (Pipeline.launchCred (fun d => tallyAt (barCell (prv d)) 0 1) c : sProp 𝕄) ⊢ cred (tallyAt (barCell c) 0 1) :=
    Pipeline.launchCred_tallyAt (csem .bar) prv nxt prv_nxt nxt_prv 0 1 c
  have hb : (tallyAt (barCell c) 0 2 : CellTallies nD τ sig ℕ) = tallyAt (barCell c) 0 1 + tallyAt (barCell c) 0 1 := (tallyAt_add (barCell c) 0 1 1).symm
  rw [hb, ← by_hop (fun h i => cred (tallyAt (recvCell c h) i N))]
  iintro ⟨⟨⟨HR, HC⟩, H1⟩, H2⟩
  isplitl [H1 H2]
  · iapply (cred_add _ _).2
    isplitl [H1]; · iapply hb1 $$ H1
    iapply hb2 $$ H2
  isplitl [HR]
  · iapply (big_mono fun i _ => hr i) $$ HR
  iapply (big_mono fun i _ => hc i) $$ HC

/-! ## The buffers -/

section Buffers

variable (c : Dev nD)

theorem row_mem (k : ℕ) (inb) (i : S3x1024x1024.Idx) :
    i ∈ (Rect.unit (s := S3x1024x1024) ![k, 0, 0] S1x1024x1024.size inb).set ↔ (i 0).val = k := by
  rw [Rect.mem_set_unit]
  constructor
  · intro h
    have h0 : k ≤ (i 0).val ∧ (i 0).val < k + 1 := h 0
    omega
  · intro h a
    fin_cases a
    · exact (show k ≤ (i 0).val ∧ (i 0).val < k + 1 by omega)
    · exact (show 0 ≤ (i 1).val ∧ (i 1).val < 0 + 1024 from ⟨Nat.zero_le _, by have : (i 1).val < 1024 := (i 1).isLt; omega⟩)
    · exact (show 0 ≤ (i 2).val ∧ (i 2).val < 0 + 1024 from ⟨Nat.zero_le _, by have : (i 2).val < 1024 := (i 2).isLt; omega⟩)

/-- the elements of slot `h` -/
abbrev row (h : Fin 3) : Finset S3x1024x1024.Idx := (slotR h).set

theorem row_disj {h h' : Fin 3} (hne : h ≠ h') : Disjoint (row h) (row h') := by
  have hm : ∀ (h : Fin 3) (i : S3x1024x1024.Idx), i ∈ row h → (i 0).val = h.val := by
    intro h i; fin_cases h <;> exact (row_mem _ _ i).mp
  exact Finset.disjoint_left.mpr fun i hi hi' => hne (Fin.ext ((hm h i hi).symm.trans (hm h' i hi')))

theorem rows_all : row 0 ∪ (row 1 ∪ row 2) = Finset.univ := by
  ext i
  rw [Finset.mem_union, Finset.mem_union, row_mem, row_mem, row_mem]
  have : (i 0).val < 3 := (i 0).isLt
  exact ⟨fun _ => Finset.mem_univ _, fun _ => by omega⟩

theorem slot_set0 : (slotM 0).view.set = row 0 := (View.set_reshape _ _).trans (View.set_slice_whole _ _)
theorem slot_set1 : (slotM 1).view.set = row 1 := (View.set_reshape _ _).trans (View.set_slice_whole _ _)
theorem slot_set2 : (slotM 2).view.set = row 2 := (View.set_reshape _ _).trans (View.set_slice_whole _ _)

theorem slotS0 : (slotS (c, 0) : sProp 𝕄) = iprop(∃ f, (c : Thread nD τ).loc cc0_scratch1 ↦[row 0]{fullShare} f) :=
  congrArg (fun I : Finset S3x1024x1024.Idx => slot ((c : Thread nD τ).loc cc0_scratch1) I) slot_set0
theorem slotS1 : (slotS (c, 1) : sProp 𝕄) = iprop(∃ f, (c : Thread nD τ).loc cc0_scratch1 ↦[row 1]{fullShare} f) :=
  congrArg (fun I : Finset S3x1024x1024.Idx => slot ((c : Thread nD τ).loc cc0_scratch1) I) slot_set1
theorem slotS2 : (slotS (c, 2) : sProp 𝕄) = iprop(∃ f, (c : Thread nD τ).loc cc0_scratch1 ↦[row 2]{fullShare} f) :=
  congrArg (fun I : Finset S3x1024x1024.Idx => slot ((c : Thread nD τ).loc cc0_scratch1) I) slot_set2

theorem slots_split (f : Buf (Elt F) ((c : Thread nD τ).loc cc0_scratch1)) :
    ((c : Thread nD τ).loc cc0_scratch1 ↦{fullShare} f : sProp 𝕄) ⊢ iprop(slotS (c, 0) ∗ slotS (c, 1) ∗ slotS (c, 2)) := by
  rw [slotS0, slotS1, slotS2]
  have h : ((c : Thread nD τ).loc cc0_scratch1 ↦{fullShare} f : sProp 𝕄)
      = ((c : Thread nD τ).loc cc0_scratch1 ↦[row 0 ∪ (row 1 ∪ row 2)]{fullShare} f) := by rw [rows_all]
  rw [h]
  iintro H
  ihave H := (pointsTo_union (Finset.disjoint_union_right.mpr ⟨row_disj (by decide), row_disj (by decide)⟩)).1 $$ H
  icases H with ⟨H0, H⟩
  ihave H := (pointsTo_union (row_disj (by decide))).1 $$ H
  icases H with ⟨H1, H2⟩
  isplitl [H0]; · iexists f; iexact H0
  isplitl [H1]; · iexists f; iexact H1
  iexists f; iexact H2

theorem slots_join :
    iprop(slotS (c, 0) ∗ slotS (c, 1) ∗ slotS (c, 2)) ⊢ (iprop(∃ f, (c : Thread nD τ).loc cc0_scratch1 ↦{fullShare} f) : sProp 𝕄) := by
  rw [slotS0, slotS1, slotS2]
  iintro ⟨⟨%f0, H0⟩, ⟨%f1, H1⟩, ⟨%f2, H2⟩⟩
  ihave H := (pointsTo_join (ℓ := (c : Thread nD τ).loc cc0_scratch1) (q := fullShare) (f := f1) (g := f2) (row_disj (show (1 : Fin 3) ≠ 2 by decide))) $$ [H1 H2]
  · isplitl [H1]; · iexact H1
    iexact H2
  ihave H := (pointsTo_join (ℓ := (c : Thread nD τ).loc cc0_scratch1) (q := fullShare) (f := f0) (Finset.disjoint_union_right.mpr ⟨row_disj (show (0 : Fin 3) ≠ 1 by decide), row_disj (show (0 : Fin 3) ≠ 2 by decide)⟩)) $$ [H0 H]
  · isplitl [H0]; · iexact H0
    iexact H
  rw [rows_all]
  iexists _; iexact H

theorem send_whole (f : Buf (Elt F) ((c : Thread nD τ).loc cc0_scratch0)) :
    (owns (c : Thread nD τ) sendM fullShare f : sProp 𝕄) = ((c : Thread nD τ).loc cc0_scratch0 ↦{fullShare} f) :=
  owns_whole (c : Thread nD τ) cc0_scratch0 fullShare f

end Buffers

/-! ## The start and the end -/

variable (m : (ℓ : Loc nD τ sig) → Buf (Elt F) ℓ) (ρ : Dev nD → PrngReg)

/-- the partial sums of the run from memory `m` -/
abbrev Sm : Dev nD → ℕ → FVec F S1024x1024 .bf16 := Sval (xB m) (wB m)

/-- what a device brings to the first point -/
def start (c : Dev nD) : sProp 𝕄 := iprop(G' (Sm m) c ∗ levAts L lv ∗ credits c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Sm m) c)
      ⊢ |={Set.univ}=> iprop(start m c ∗ emp) := by
  iintro ⟨-, Hlev, Hcr, -, HG⟩
  ihave Hc := (launch_credits (F := F) c) $$ Hcr
  imodintro
  unfold start
  isplitl
  · isplitl [HG]; · iexact HG
    isplitl [Hlev]; · iexact Hlev
    iexact Hc
  · iempintro

theorem toks_intro (c : Dev nD) (h : Fin 3) :
    iprop((bigSep (Finset.Ico 0 8) fun r => dutyTok ER (recvCell (nxt c) h) r 0) ∗ (bigSep (Finset.Ico 0 8) fun r => writeTok EK (nxt c, h) (r + 1))
        ∗ bigSep (Finset.Ico 0 8) fun r => cred (tallyAt (recvCell c h) (3 * r + h.val) N)) ⊢ (Toks c h 0 : sProp 𝕄) := by
  unfold Toks; rw [bigSep_sep', bigSep_sep']

theorem first_intro (c : Dev nD) :
    iprop(start m c ∗ (slotS (c, 0) ∗ slotS (c, 1) ∗ slotS (c, 2)) ∗ ∃ V, owns (c : Thread nD τ) sendM fullShare V) ⊢ Start c (xB m) (wB m) := by
  unfold start G' know lin credits posP barT0 barT1 sendT recvT credT readT writeT
  rw [big_roles, big_slots, big_slots, big_slots, big_slots]
  iintro ⟨⟨⟨%K, %ιs, ⟨#HI, #HR, #HS⟩, ⟨HaB, HaS, Ha0, Ha1, Ha2, HaC⟩, HB0, HB1, HST, ⟨HT0, HT1, HT2⟩, HCT, ⟨Hr0, Hr1, Hr2⟩, ⟨HW0, HW1, HW2⟩⟩, #HL, HcB, ⟨Hc0, Hc1, Hc2⟩, HcC⟩, ⟨Hs0, Hs1, Hs2⟩, HV⟩
  unfold Start
  iexists K, ιs
  isplitr
  · unfold recs
    isplitr; · iexact HI
    isplitr; · iexact HR
    isplitr; · iexact HS
    iexact HL
  isplitl [Hr0 Hs0 Hr1 Hs1 Hr2 Hs2 HB0 HB1 HaB HcB]
  · unfold entrySt
    isplitl [Hr0 Hs0]
    · isplitl [Hr0]; · iexact Hr0
      iexact Hs0
    isplitl [Hr1 Hs1]
    · isplitl [Hr1]; · iexact Hr1
      iexact Hs1
    isplitl [Hr2 Hs2]
    · isplitl [Hr2]; · iexact Hr2
      iexact Hs2
    isplitl [HB1]; · iexact HB1
    isplitl [HB0]; · iexact HB0
    isplitl [HaB]; · iexact HaB
    iexact HcB
  isplitl [HaS HST]
  · unfold sendSt
    isplitl [HaS]; · iexact HaS
    isplitr
    · iapply (big_elim (Finset.mem_univ (c, Role.send)) (fun ck : Dev nD × Role => (reached ER (kcell ck) 0 : sProp 𝕄))) $$ HR
    iexact HST
  isplitl [HV]; · iexact HV
  isplitl [HCT]; · unfold GiveToks; iexact HCT
  isplitl [HaC HcC]
  · unfold credSt
    iexists (∅ : Finset ℕ)
    isplitr; · ipureintro; exact ⟨Finset.empty_subset _, by decide⟩
    isplitl [HaC]; · iexact HaC
    isplitr
    · rw [bigSep_empty]; iempintro
    iexact HcC
  isplitl [Ha0 HT0 HW0 Hc0]
  · isplitl [Ha0]; · iexact Ha0
    iapply (toks_intro (F := F) c 0)
    isplitl [HT0]; · iexact HT0
    isplitl [HW0]; · iexact HW0
    iexact Hc0
  isplitl [Ha1 HT1 HW1 Hc1]
  · isplitl [Ha1]; · iexact Ha1
    iapply (toks_intro (F := F) c 1)
    isplitl [HT1]; · iexact HT1
    isplitl [HW1]; · iexact HW1
    iexact Hc1
  · isplitl [Ha2]; · iexact Ha2
    iapply (toks_intro (F := F) c 2)
    isplitl [HT2]; · iexact HT2
    isplitl [HW2]; · iexact HW2
    iexact Hc2

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Start c (xB m) (wB m) from (show PhiN c (xB m) (wB m) 0 = _ from if_pos rfl), scopedRest0_eq]
  iintro ⟨Hs, -, ⟨%f, H0⟩, ⟨%g, H1⟩⟩
  iapply (first_intro m c)
  isplitl [Hs]; · iexact Hs
  isplitl [H1]; · iapply (slots_split c g) $$ H1
  iexists f; rw [send_whole]; iexact H0

theorem phi8_exit (c : Dev nD) :
    (dats m ρ 0 c).Φ (Fin.last cfg0.N) ⊢ iprop(unscopedSems0 c ∗ own0 c ∗ Pipeline.scopedRest cfg0.spec c) := by
  rw [show (dats m ρ 0 c).Φ (Fin.last cfg0.N) = Fin8 c from (show PhiN c (xB m) (wB m) grid0.N = _ from by rw [N_0]; exact (if_neg (by decide)).trans (if_pos rfl)), scopedRest0_eq, own0_eq, unscoped0_eq]
  unfold Fin8
  iintro ⟨Hsl, ⟨%V, HV⟩, HB, HS, H0, H1, H2, HC⟩
  isplitl [HB]; · iexact HB
  isplitl [HS H0 H1 H2 HC]
  · isplitl [HS]; · iexact HS
    isplitl [H0]; · iexact H0
    isplitl [H1]; · iexact H1
    isplitl [H2]; · iexact H2
    iexact HC
  isplitl [HV]
  · iexists V; rw [← send_whole]; iexact HV
  iapply (slots_join (F := F) c) $$ Hsl

theorem mayWait_stage (c : Dev nD) (sm : SemLoc sig) (h0 : lv ((c : Thread nD τ), sm) 0 = 0) (n : ℕ) :
    (levAts L lv : sProp 𝕄) ⊢ MayWait (c : Thread nD τ) sm 0 (owedN c n) := by
  unfold owedN
  split
  · exact mayWait_O₀ c sm h0
  · exact mayWait_Ow c sm 0 _ _ (by decide) (by rw [h0]; omega) (by rw [h0]; omega)

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> rfl) t.val

theorem share_eq (c : Dev nD) (w : Fin cfg0.W) : (dats m ρ 0 c).share w = fullShare := by unfold Dat.share; split <;> rfl

/-! ## The run -/

/-- what window `w`'s array of device `c` holds at the end -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem owed_last (c : Dev nD) : (dats m ρ 0 c).owed (Fin.last cfg0.N) = 0 := by
  show owedN c cfg0.N = 0
  rw [show cfg0.N = 8 from N_0]
  exact (if_neg (by decide)).trans (Ow_end c (by decide))

/-- On the ring of four devices, from any memory with zero counters: every weakly fair run ends, with each device's arrays
    at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := owed_last m ρ)
    (L := L) (lv := lv) (hL := L_of_ne) (hwaits := waits m ρ)
    (G := G (Sm m)) (G' := G' (Sm m)) (u₀ := u₀)
    (hu₀ := by
      unfold u₀
      iintro Hu
      ihave H := (ownU_pair _ _) $$ Hu
      icases H with ⟨HP, HX⟩
      imod (fund_all (Sm m)) $$ HX with HG
      imodintro
      isplitl [HP] <;> iassumption)
    (hglob := glob (Sm m))
    (hA := fun _ _ => rfl) (hpf := fun _ k => k.elim0)
    (X := start m) (Y := fun c => unscopedSems0 c) (Z := fun _ => iprop(emp))
    (hX := start_intro m ρ) (hin := phi0_intro m ρ) (hout := phi8_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RingProof

end
-- ==== Proof.Frames.lean ====
/-
  The frames of the kernel and of its idealization: both read off the one run of `Launch.lean`,
  at the bit-level and at the ideal float values, with the results dropped.
-/
module

public import proofs.«01_k».proof.Defs
public import proofs.«01_k».proof.Proof.Gen.Kernel
public import proofs.«01_k».proof.Proof.Launch

@[expose] public section

noncomputable section

namespace Cert.RingProof

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- What the launch ends with: the output array at its final contents, the four arguments as they
    were, every semaphore at zero. -/
theorem run_read :
    θ_run defs (onTc (τ := τ) (main (F := F))) ⟨m, fun _ => 0, ρ⟩ fun r =>
      (∀ c : Dev nD,
        r.2.mem ((c : Thread nD τ).loc main_v1) = finalA m ρ c 4
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
      ∧ r.2.sem = fun _ => 0 :=
  (θ_run defs _ _).mono
    (fun _ h => ⟨fun c =>
      ⟨h.1 c 4,
       (h.1 c 2).trans ((dats m ρ 0 c).arrAt_in 2 rfl _),
       (h.1 c 3).trans ((dats m ρ 0 c).arrAt_in 3 rfl _),
       (h.1 c 0).trans ((dats m ρ 0 c).arrAt_in 0 rfl _),
       (h.1 c 1).trans ((dats m ρ 0 c).arrAt_in 1 rfl _)⟩, h.2⟩)
    (run_main m ρ)

/-- The idealized kernel runs to its end on every device, leaves its arguments alone and every
    semaphore at zero. -/
theorem frame_kernelIdeal : Cert.quiescent_KernelIdeal := fun m ρ _ =>
  (θ_run Cert.KernelIdeal.defs _ _).mono (fun _ h => ⟨fun c => (h.1 c).2, h.2⟩) (run_read (F := Ideal) m ρ)

/-- The same run at bit patterns. -/
theorem run_bits (m : (ℓ : Loc nD τ sig) → Buf (Elt Bits) ℓ) (ρ : Dev nD → PrngReg) :
    θ_run defs (onTc (τ := τ) (main (F := Bits))) ⟨m, fun _ => 0, ρ⟩ fun r =>
      (∀ c : Dev nD,
        r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
      ∧ r.2.sem = fun _ => 0 :=
  (θ_run defs _ _).mono (fun _ h => ⟨fun c => (h.1 c).2, h.2⟩) (run_read (F := Bits) m ρ)

/-- The two printed bodies are one text. -/
theorem body_same : Cert.Kernel.cc0_body (F := F) = Cert.KernelIdeal.cc0_body (F := F) := rfl

/-- So are the two body tables. -/
theorem table_same : Cert.Kernel.defs₀ (F := F) = Cert.KernelIdeal.defs₀ (F := F) := by
  unfold Cert.Kernel.defs₀ Cert.KernelIdeal.defs₀
  congr 1
  funext l a
  match l with
  | 0 =>
    show Cert.Kernel.cc0_body (F := F) _ _ _ _ _ _ _ _ _ _ _ _ _ _ _ _ _ _
      = Cert.KernelIdeal.cc0_body (F := F) _ _ _ _ _ _ _ _ _ _ _ _ _ _ _ _ _ _
    exact congrFun (congrFun (congrFun (congrFun (congrFun (congrFun (congrFun (congrFun (congrFun (congrFun (congrFun
      (congrFun (congrFun (congrFun (congrFun (congrFun (congrFun (congrFun body_same _) _) _) _) _) _) _) _) _) _) _) _) _)
      _) _) _) _) _

/-- And the two tables of procedures, the pipeline's included. -/
theorem defs_same : Cert.Kernel.defs (F := F) = Cert.KernelIdeal.defs (F := F) := by
  unfold Cert.Kernel.defs Cert.KernelIdeal.defs
  exact congrArg (Pipeline.defs Cert.KernelIdeal.pcfgs) table_same

/-- So does the kernel itself: the same program, read at bit patterns. -/
theorem frame_kernel : Cert.quiescent_Kernel := fun m ρ _ => by
  rw [defs_same]
  exact run_bits m ρ

end Cert.RingProof

end
-- ==== Proof.Math.lean ====
/-
  The kernel's arithmetic over the extended reals, element by element: what each hop adds to the
  ring's partial sum, and that after the last hop device `c` holds, of its own rows, the sum of the
  four devices' products. And the reference's formula at an element.
-/
module

public import proofs.«01_k».proof.Proof.Vals
public import proofs.«01_k».proof.Proof.Gen.ReferenceIdeal.Skeleton
public import Idealize.ShloMosaic.Lib.Pointwise
public import Idealize.ShloMosaic.Lib.Pipeline.ValueKit.Acc

@[expose] public section

set_option maxRecDepth 16384

noncomputable section

namespace Cert.RingProof

open Idealize.ShloMosaic
open Cert.KernelIdeal Cert.KernelIdeal.Gen

/-! ## The epilogue -/

/-- The scaled sum through its sigmoid, the exponent clamped to ±60. -/
def epi (a s : EReal) : EReal :=
  Ideal.div (a * s)
    (1 + Ideal.exp (0 - min (Ideal.ofBits .f32 0x42700000#32) (max (Ideal.ofBits .f32 0xC2700000#32) (a * s))))

theorem pay1_apply (A : FVec Ideal S1024x1024 .f32) (p q : Elt Ideal .f32) (a b : Fin 1024) :
    k0_pay1 (F := Ideal) A (k0_pay7 p q) (ix2 a b) = epi (A (ix2 a b)) (p * q) := by
  pointwise [k0_pay1, k0_pay7, epi]

/-- The reference at an element: the epilogue of the row of `x` times the column of `w`. -/
theorem ref_apply (X : Vec Ideal Cert.ReferenceIdeal.S4096x4096 .fp8e4m3) (W : Vec Ideal Cert.ReferenceIdeal.S4096x8192 .fp8e5m2)
    (p q : Elt Ideal .f32) (a : Fin 4096) (b : Fin 8192) :
    Cert.ReferenceIdeal.Gen.k0_pay1 (F := Ideal) X W p q (ix2 a b)
      = epi (∑ k : Fin 4096, X (ix2 a k) * W (ix2 k b)) (p * q) := by
  pointwise [Cert.ReferenceIdeal.Gen.k0_pay1, epi]

/-! ## A hop's product and sum -/

/-- A received block, read without its unit axis. -/
theorem lift1_apply (V : FVec Ideal S1024x1024 .bf16) (a b : Fin 1024) : lift1 V (ix3 0 a b) = V (ix2 a b) := by
  refine congrArg V ((Equiv.symm_apply_eq _).2 ?_)
  pointwise

theorem pay2_apply (X : Vec Ideal S1024x1024 .fp8e4m3) (W : Vec Ideal S1024x1024 .fp8e5m2) (a b : Fin 1024) :
    k0_pay2 (F := Ideal) X W (ix2 a b) = ∑ k : Fin 1024, X (ix2 a k) * W (ix2 k b) := by
  pointwise [k0_pay2]
theorem pay3_apply (X : Vec Ideal S1024x1024 .fp8e4m3) (W : Vec Ideal S1024x1024 .fp8e5m2)
    (V : FVec Ideal S1024x1024 .bf16) (a b : Fin 1024) :
    k0_pay3 (F := Ideal) X W (lift1 V) (ix2 a b) = (∑ k : Fin 1024, X (ix2 a k) * W (ix2 k b)) + V (ix2 a b) := by
  pointwise [k0_pay3]; rw [lift1_apply]
theorem pay4_eq (V : FVec Ideal S1024x1024 .bf16) (a b : Fin 1024) : k0_pay4 (F := Ideal) V (ix2 a b) = V (ix2 a b) := by
  pointwise [k0_pay4]
theorem pay5_apply (X : Vec Ideal S1024x1024 .fp8e4m3) (W : Vec Ideal S1024x1024 .fp8e5m2)
    (V : FVec Ideal S1024x1024 .bf16) (a b : Fin 1024) :
    k0_pay5 (F := Ideal) X W (lift1 V) (ix2 a b) = (∑ k : Fin 1024, X (ix2 a k) * W (ix2 k b)) + V (ix2 a b) := by
  pointwise [k0_pay5]; rw [lift1_apply]
theorem pay6_apply (X : Vec Ideal S1024x1024 .fp8e4m3) (W : Vec Ideal S1024x1024 .fp8e5m2)
    (V : FVec Ideal S1024x1024 .bf16) (a b : Fin 1024) :
    k0_pay6 (F := Ideal) X W (lift1 V) (ix2 a b) = (∑ k : Fin 1024, X (ix2 a k) * W (ix2 k b)) + V (ix2 a b) := by
  pointwise [k0_pay6]; rw [lift1_apply]

/-! ## The chunks of rows -/

/-- Row `a` of chunk `e`. -/
def crow (e : Fin 4) (a : Fin 1024) : Fin 4096 := ⟨e.val * 1024 + a.val, by have := e.isLt; have := a.isLt; omega⟩

/-- Hop `r` multiplies the rows of the device `r + 1` places to the left, counted mod 4. -/
theorem off1_eq : ∀ (c : Dev nD) (r : Fin 3), k0_off1 c (BitVec.ofNat 32 r.val) = ![1024 * ((c.val + 3 - r.val) % 4), 0] := by
  decide +kernel

theorem ld_R1 (X : S4096x1024.Idx → Elt Ideal .fp8e4m3) (c : Dev nD) (r : Fin 3) (e : Fin 4)
    (he : e.val = (c.val + 3 - r.val) % 4) (a k : Fin 1024) : View.ld X (R1 c r) (ix2 a k) = X (ix2 (crow e a) k) := by
  refine congrArg X ?_
  refine (eq_ix2 _).trans ((ix2_inj _ _ _ _).2 ⟨Fin.ext ?_, Fin.ext ?_⟩)
  · show k0_off1 c (BitVec.ofNat 32 r.val) 0 + 1 * a.val = e.val * 1024 + a.val
    rw [off1_eq, he]; show 1024 * ((c.val + 3 - r.val) % 4) + 1 * a.val = _; omega
  · show k0_off1 c (BitVec.ofNat 32 r.val) 1 + 1 * k.val = k.val
    rw [off1_eq]; show 0 + 1 * k.val = _; omega

theorem ld_R2 (X : S4096x1024.Idx → Elt Ideal .fp8e4m3) (c : Dev nD) (a k : Fin 1024) :
    View.ld X (R2 c) (ix2 a k) = X (ix2 (crow c a) k) := by
  refine congrArg X ?_
  refine (eq_ix2 _).trans ((ix2_inj _ _ _ _).2 ⟨Fin.ext ?_, Fin.ext ?_⟩)
  · show k0_off2 c 0 + 1 * a.val = c.val * 1024 + a.val
    rw [k0_off2_eq]; show 1024 * c.val + 1 * a.val = _; omega
  · show k0_off2 c 1 + 1 * k.val = k.val
    rw [k0_off2_eq]; show 0 + 1 * k.val = _; omega

/-! ## The ring's sum -/

section Ring
variable (x : Dev nD → S4096x1024.Idx → Elt Ideal .fp8e4m3) (w : Dev nD → ℕ → Vec Ideal S1024x1024 .fp8e5m2)

/-- Device `d`'s product, at row `a` of chunk `e` and column `b` of block `t`. -/
def part (d : Dev nD) (e : Fin 4) (t : ℕ) (a b : Fin 1024) : EReal :=
  ∑ k : Fin 1024, x d (ix2 (crow e a) k) * w d t (ix2 k b)

theorem sent0_apply (c : Dev nD) (e : Fin 4) (he : e.val = (c.val + 3) % 4) (t : ℕ) (a b : Fin 1024) :
    sent0 x w c t (ix2 a b) = part x w c e t a b := by
  unfold sent0 part
  rw [pay2_apply]
  exact Finset.sum_congr rfl fun k _ => congrArg (· * w c t (ix2 k b)) (ld_R1 (x c) c 0 e he a k)

theorem sent1_apply (c : Dev nD) (e : Fin 4) (he : e.val = (c.val + 2) % 4) (t : ℕ) (a b : Fin 1024) :
    sent1 x w c t (ix2 a b) = part x w c e t a b + part x w (prv c) e t a b := by
  unfold sent1
  rw [pay4_eq]
  unfold acc1
  rw [pay3_apply, sent0_apply x w (prv c) e (by show e.val = ((c.val + 3) % 4 + 3) % 4; omega) t a b]
  refine congrArg (· + _) ?_
  unfold part
  exact Finset.sum_congr rfl fun k _ => congrArg (· * w c t (ix2 k b)) (ld_R1 (x c) c 1 e he a k)

theorem sent2_apply (c : Dev nD) (e : Fin 4) (he : e.val = (c.val + 1) % 4) (t : ℕ) (a b : Fin 1024) :
    sent2 x w c t (ix2 a b)
      = part x w c e t a b + (part x w (prv c) e t a b + part x w (prv (prv c)) e t a b) := by
  unfold sent2
  rw [pay5_apply, sent1_apply x w (prv c) e (by show e.val = ((c.val + 3) % 4 + 2) % 4; omega) t a b]
  refine congrArg (· + _) ?_
  unfold part
  exact Finset.sum_congr rfl fun k _ => congrArg (· * w c t (ix2 k b)) (ld_R1 (x c) c 2 e he a k)

theorem acc3_ring (c : Dev nD) (t : ℕ) (a b : Fin 1024) :
    acc3 x w c t (ix2 a b)
      = part x w c c t a b + (part x w (prv c) c t a b
        + (part x w (prv (prv c)) c t a b + part x w (prv (prv (prv c))) c t a b)) := by
  unfold acc3
  rw [pay6_apply, sent2_apply x w (prv c) c (by have h : c.val < 4 := c.isLt; show c.val = ((c.val + 3) % 4 + 1) % 4; omega) t a b]
  refine congrArg (· + _) ?_
  unfold part
  exact Finset.sum_congr rfl fun k _ => congrArg (· * w c t (ix2 k b)) (ld_R2 (x c) c a k)

/-- Going once round the ring from any device adds up all four. -/
theorem round_sum (f : Fin 4 → EReal) (c : Dev nD) :
    f c + (f (prv c) + (f (prv (prv c)) + f (prv (prv (prv c))))) = ∑ d : Fin 4, f d := by
  rw [Fin.sum_univ_four]
  have h0 : prv (0 : Fin 4) = (3 : Fin 4) := by decide
  have h1 : prv (1 : Fin 4) = (0 : Fin 4) := by decide
  have h2 : prv (2 : Fin 4) = (1 : Fin 4) := by decide
  have h3 : prv (3 : Fin 4) = (2 : Fin 4) := by decide
  have hc : ∀ e : Fin 4, e = 0 ∨ e = 1 ∨ e = 2 ∨ e = 3 := by decide
  rcases hc c with h | h | h | h <;> rw [h] <;> simp only [h0, h1, h2, h3] <;> ac_rfl

/-- After the last hop device `c` holds, of its own rows, the sum over the four devices. -/
theorem acc3_apply (c : Dev nD) (t : ℕ) (a b : Fin 1024) :
    acc3 x w c t (ix2 a b) = ∑ d : Fin 4, part x w d c t a b :=
  (acc3_ring x w c t a b).trans (round_sum (fun d => part x w d c t a b) c)

/-- With `x` cut along its columns and `w` along its rows, that sum is the whole contraction. -/
theorem acc3_whole (X : Fin 4096 → Fin 4096 → EReal) (W : Fin 4096 → Fin 8192 → EReal) (t : Fin 8)
    (hx : ∀ (d : Dev nD) (i : Fin 4096) (k : Fin 1024), x d (ix2 i k) = X i (crow d k))
    (hw : ∀ (d : Dev nD) (k b : Fin 1024),
      w d t.val (ix2 k b) = W (crow d k) ⟨t.val * 1024 + b.val, by have := t.isLt; have := b.isLt; omega⟩)
    (c : Dev nD) (a b : Fin 1024) :
    acc3 x w c t.val (ix2 a b)
      = ∑ k : Fin 4096, X (crow c a) k * W k ⟨t.val * 1024 + b.val, by have := t.isLt; have := b.isLt; omega⟩ := by
  rw [acc3_apply]
  refine Eq.trans ?_ (Fin.sum_mul_add_fin 4 1024
    (fun k : Fin 4096 => X (crow c a) k * W k ⟨t.val * 1024 + b.val, by have := t.isLt; have := b.isLt; omega⟩) rfl)
  refine Finset.sum_congr rfl fun d _ => Finset.sum_congr rfl fun k _ => ?_
  rw [hx d, hw d]
  rfl

end Ring

end Cert.RingProof

end
-- ==== Proof.RefRun.lean ====
/-
  What the reference ends with: its one block is its whole result array, so the array holds the
  reference's formula of the four arguments.
-/
module

public import proofs.«01_k».proof.Proof.Gen.ReferenceIdeal.Value
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)

namespace Cert.RefProof

open Cert.ReferenceIdeal Cert.ReferenceIdeal.Gen

variable {F : FTy → Type} [FloatOps F]
variable (m : (ℓ : Loc nD τ sig) → Buf (Elt F) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a; rfl

/-- The one index of a one-element array. -/
abbrev i0 : S1.Idx := Shape.Idx.first (s := S1) (numel1_S1.symm ▸ Nat.one_pos)

/-- A load of the one element of a one-element array is that element. -/
theorem ld_one (x : Vec F S1 .f32) (j : S1.Idx) : View.ld x (Rect.unit ![0] ![1] inb_S1_S1_0) j = x i0 :=
  congrArg x (funext fun a => Fin.ext (by
    have h1 := ((Rect.unit (s := S1) ![0] ![1] inb_S1_S1_0).idx j a).isLt
    have h2 := (i0 a).isLt
    have h3 : S1.size a = 1 := by fin_cases a; rfl
    omega))

/-- The body's one store covers the output's buffer: it holds the payload of the four blocks. -/
theorem out_eq (c : Dev nD) (a0 : Memref sig .tc .smem S1 .f32) (h0 : a0.IsWhole) (a1 : Memref sig .tc .smem S1 .f32)
    (h1 : a1.IsWhole) (a2 : Memref sig .tc .vmem S4096x4096 .fp8e4m3) (h2 : a2.IsWhole)
    (a3 : Memref sig .tc .vmem S4096x8192 .fp8e5m2) (h3 : a3.IsWhole) (a4 : Memref sig .tc .vmem S4096x8192 .f32)
    (h4 : a4.IsWhole) (x0 x1 : Vec F S1 .f32) (x2 : Vec F S4096x4096 .fp8e4m3) (x3 : Vec F S4096x8192 .fp8e5m2) :
    out0_A_4 c a0 h0 a1 h1 a2 h2 a3 h3 a4 h4 x0 x1 x2 x3 = k0_pay1 x2 x3 (x0 i0) (x1 i0) := by
  unfold out0_A_4
  rw [View.read_writes_eq_canon _ _ _ (cover0_A_4 c a0 h0 a1 h1 a2 h2 a3 h3 a4 h4 x0 x1 x2 x3)]
  unfold kernelRun0_A
  dsimp only
  sl_unfold_words
  rw [View.canon_unit_zero off2]
  simp only [View.readAt_eq_ld, h0.read_unread, h1.read_unread, h2.read_unread, h3.read_unread,
    View.ld_unit_zero (S := S4096x4096) off2, View.ld_unit_zero (S := S4096x8192) off2]
  exact congrArg₂ (k0_pay1 x2 x3) (ld_one x0 _) (ld_one x1 _)

/-- The result, as contents of the result array. -/
def result (c : Dev nD) : Buf (Elt F) ((c : Thread nD τ).loc main_v0) :=
  k0_pay1 (m ((c : Thread nD τ).loc main_arg0)) (m ((c : Thread nD τ).loc main_arg1))
    (m ((c : Thread nD τ).loc main_arg2) i0) (m ((c : Thread nD τ).loc main_arg3) i0)

theorem zeros2 (t : Fin cfg0.N) : (fun a => win0_2.index t a * main_arg0.ty.shape.size a) = fun _ => 0 := by
  rcases fin_N0 t with rfl; exact funext fun a => by fin_cases a <;> decide
theorem zeros3 (t : Fin cfg0.N) : (fun a => win0_3.index t a * main_arg1.ty.shape.size a) = fun _ => 0 := by
  rcases fin_N0 t with rfl; exact funext fun a => by fin_cases a <;> decide

/-- Each input's one block is the whole argument. -/
theorem blk0 (c : Dev nD) (t : Fin cfg0.N) : iblk m c 0 t = m ((c : Thread nD τ).loc main_arg2) :=
  Memref.read_access_unit_zero (Elt F) main_arg2 (by rcases fin_N0 t with rfl; exact funext fun a => by fin_cases a; decide)
    (fun a => by rcases fin_N0 t with rfl; fin_cases a; decide) _
theorem blk1 (c : Dev nD) (t : Fin cfg0.N) : iblk m c 1 t = m ((c : Thread nD τ).loc main_arg3) :=
  Memref.read_access_unit_zero (Elt F) main_arg3 (by rcases fin_N0 t with rfl; exact funext fun a => by fin_cases a; decide)
    (fun a => by rcases fin_N0 t with rfl; fin_cases a; decide) _
theorem blk2 (c : Dev nD) (t : Fin cfg0.N) : iblk m c 2 t = m ((c : Thread nD τ).loc main_arg0) :=
  Memref.read_access_unit_zero (Elt F) main_arg0 (zeros2 t) (fun a => by rw [congrFun (zeros2 t) a]; simp) _
theorem blk3 (c : Dev nD) (t : Fin cfg0.N) : iblk m c 3 t = m ((c : Thread nD τ).loc main_arg1) :=
  Memref.read_access_unit_zero (Elt F) main_arg1 (zeros3 t) (fun a => by rw [congrFun (zeros3 t) a]; simp) _

/-- What the one point writes back. -/
theorem flushed_eq (c : Dev nD) (t : Fin cfg0.N) (hf : (cfg0.win 4).flush t = true) :
    (dats m 0 c).flushed 4 t = ((cfg0.win 4).blk t).view.read (Elt F) (result m c) := by
  rw [Value.flushed4_A, out_eq, blk0, blk1, blk2, blk3]
  have hz : (fun a => win0_4.index t a * main_v0.ty.shape.size a) = fun _ => 0 := by
    rcases fin_N0 t with rfl; exact funext fun a => by fin_cases a <;> decide
  exact (Memref.read_access_unit_zero (Elt F) main_v0 hz (fun a => by rw [congrFun hz a]; simp) (result m c)).symm

/-- So the result array ends at the result. -/
theorem final_eq (c : Dev nD) : (dats m 0 c).arrAt 4 cfg0.N = result m c :=
  (dats m 0 c).arrAt_eq_of_cover 4 (result m c) (flushed_eq m c) fun i =>
    ⟨t0_0, by decide, by
      show i ∈ ((View.whole main_v0).slice (win0_4.rect t0_0)).set
      rw [View.set_slice_whole, Rect.mem_set_unit]
      intro a
      have h0 : (i 0 : Nat) < 4096 := (i 0).isLt
      have h1 : (i 1 : Nat) < 8192 := (i 1).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 4096 from by decide +kernel]; omega
      | ⟨1, _⟩ => show win0_4.index t0_0 1 * win0_4.size 1 ≤ (i 1 : Nat) ∧ (i 1 : Nat) < win0_4.index t0_0 1 * win0_4.size 1 + win0_4.xsize (grid0.coords t0_0) 1
                  rw [show win0_4.index t0_0 1 * win0_4.size 1 = 0 from by decide +kernel, show win0_4.xsize (grid0.coords t0_0) 1 = 8192 from by decide +kernel]; omega⟩

/-- The reference's run, read: the result array at the result, the arguments unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_eq m c), (h c).2⟩) (Value.run_blocks m ρ)

end Cert.RefProof

end
-- ==== Proof.Value.lean ====
/-
  The value claim: the kernel's result array on device `c` is block `c` of the reference's result.
-/
module

public import proofs.«01_k».proof.Proof.Math
public import proofs.«01_k».proof.Proof.RefRun
public import proofs.«01_k».proof.Proof.Frames

@[expose] public section

noncomputable section

namespace Cert.RingProof

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

/-! ## The blocks, by coordinates -/

/-- Column `b` of block `t` of the result. -/
def ccol (t : Fin 8) (b : Fin 1024) : Fin 8192 := ⟨t.val * 1024 + b.val, by have := t.isLt; have := b.isLt; omega⟩

theorem xB_apply (c : Dev nD) (i : Fin 4096) (k : Fin 1024) :
    xB m c (ix2 i k) = m ((c : Thread nD τ).loc main_arg0) (ix2 i k) := by
  unfold xB iblk
  rw [View.read_apply]
  refine congrArg (m ((c : Thread nD τ).loc main_arg0)) ?_
  refine (eq_ix2 _).trans ((ix2_inj _ _ _ _).2 ⟨Fin.ext ?_, Fin.ext ?_⟩)
  · show win0_2.index t0_0 0 * 4096 + 1 * i.val = i.val
    rw [show win0_2.index t0_0 0 = 0 from by decide]; omega
  · show win0_2.index t0_0 1 * 1024 + 1 * k.val = k.val
    rw [show win0_2.index t0_0 1 = 0 from by decide]; omega

theorem index3 : ∀ t : Fin cfg0.N, win0_3.index t 0 = 0 ∧ win0_3.index t 1 = t.val := by decide
theorem index4 : ∀ t : Fin cfg0.N, win0_4.index t 0 = 0 ∧ win0_4.index t 1 = t.val := by decide

theorem wB_apply (c : Dev nD) (t : Fin 8) (k b : Fin 1024) :
    wB m c t.val (ix2 k b) = m ((c : Thread nD τ).loc main_arg1) (ix2 k (ccol t b)) := by
  have ht := t.isLt
  unfold wB iblk
  rw [View.read_apply]
  refine congrArg (m ((c : Thread nD τ).loc main_arg1)) ?_
  refine (eq_ix2 _).trans ((ix2_inj _ _ _ _).2 ⟨Fin.ext ?_, Fin.ext ?_⟩)
  · show win0_3.index ⟨t.val % 8, _⟩ 0 * 1024 + 1 * k.val = k.val
    rw [(index3 _).1]; omega
  · show win0_3.index ⟨t.val % 8, _⟩ 1 * 1024 + 1 * b.val = t.val * 1024 + b.val
    rw [(index3 _).2]; show t.val % 8 * 1024 + 1 * b.val = _; omega

theorem one_idx (i j : S1.Idx) : i = j := funext fun a => Fin.ext (by
  have h1 := (i a).isLt
  have h2 := (j a).isLt
  have h3 : S1.size a = 1 := by fin_cases a; rfl
  omega)

theorem sxB_apply (c : Dev nD) (i j : S1.Idx) : sxB m c i = m ((c : Thread nD τ).loc main_arg2) j := by
  unfold sxB iblk
  rw [View.read_apply]
  exact congrArg (m ((c : Thread nD τ).loc main_arg2)) (one_idx _ _)

theorem swB_apply (c : Dev nD) (i j : S1.Idx) : swB m c i = m ((c : Thread nD τ).loc main_arg3) j := by
  unfold swB iblk
  rw [View.read_apply]
  exact congrArg (m ((c : Thread nD τ).loc main_arg3)) (one_idx _ _)

/-! ## The arguments as blocks of the reference's -/

/-- Each device's arguments are its blocks of the reference's: `x` cut along its columns, `w` along
    its rows, the two scales copied. -/
def Cut : Prop := ∀ c : Dev nD,
  m ((c : Thread nD τ).loc main_arg0) = Layout.block ⟨2, ![4096, 1024]⟩ ⟨2, ![4096, 4096]⟩ 1 4 c
      (m' (((0 : Dev Cert.ReferenceIdeal.nD) : Thread Cert.ReferenceIdeal.nD Cert.ReferenceIdeal.τ).loc Cert.ReferenceIdeal.main_arg0))
  ∧ m ((c : Thread nD τ).loc main_arg1) = Layout.block ⟨2, ![1024, 8192]⟩ ⟨2, ![4096, 8192]⟩ 0 4 c
      (m' (((0 : Dev Cert.ReferenceIdeal.nD) : Thread Cert.ReferenceIdeal.nD Cert.ReferenceIdeal.τ).loc Cert.ReferenceIdeal.main_arg1))
  ∧ m ((c : Thread nD τ).loc main_arg2)
      = m' (((0 : Dev Cert.ReferenceIdeal.nD) : Thread Cert.ReferenceIdeal.nD Cert.ReferenceIdeal.τ).loc Cert.ReferenceIdeal.main_arg2)
  ∧ m ((c : Thread nD τ).loc main_arg3)
      = m' (((0 : Dev Cert.ReferenceIdeal.nD) : Thread Cert.ReferenceIdeal.nD Cert.ReferenceIdeal.τ).loc Cert.ReferenceIdeal.main_arg3)

/-- The reference's `x` and `w`, by row and column. -/
def bigX (i k : Fin 4096) : EReal :=
  m' (((0 : Dev Cert.ReferenceIdeal.nD) : Thread Cert.ReferenceIdeal.nD Cert.ReferenceIdeal.τ).loc Cert.ReferenceIdeal.main_arg0) (ix2 i k)
def bigW (k : Fin 4096) (j : Fin 8192) : EReal :=
  m' (((0 : Dev Cert.ReferenceIdeal.nD) : Thread Cert.ReferenceIdeal.nD Cert.ReferenceIdeal.τ).loc Cert.ReferenceIdeal.main_arg1) (ix2 k j)
/-- The product of the two scales. -/
def scale : EReal := (fun p q : EReal => p * q)
  (m' (((0 : Dev Cert.ReferenceIdeal.nD) : Thread Cert.ReferenceIdeal.nD Cert.ReferenceIdeal.τ).loc Cert.ReferenceIdeal.main_arg2) Cert.RefProof.i0)
  (m' (((0 : Dev Cert.ReferenceIdeal.nD) : Thread Cert.ReferenceIdeal.nD Cert.ReferenceIdeal.τ).loc Cert.ReferenceIdeal.main_arg3) Cert.RefProof.i0)

theorem cut_x (h : Cut m m') (d : Dev nD) (i : Fin 4096) (k : Fin 1024) : xB m d (ix2 i k) = bigX m' i (crow d k) := by
  rw [xB_apply, (h d).1, Layout.block_apply]
  unfold bigX
  refine congrArg (m' _) ((eq_ix2 _).trans ((ix2_inj _ _ _ _).2 ⟨Fin.ext ?_, Fin.ext ?_⟩)) <;> rfl

theorem cut_w (h : Cut m m') (d : Dev nD) (t : Fin 8) (k b : Fin 1024) :
    wB m d t.val (ix2 k b) = bigW m' (crow d k) (ccol t b) := by
  rw [wB_apply, (h d).2.1, Layout.block_apply]
  unfold bigW
  refine congrArg (m' _) ((eq_ix2 _).trans ((ix2_inj _ _ _ _).2 ⟨Fin.ext ?_, Fin.ext ?_⟩)) <;> rfl

/-! ## The result -/

theorem result_apply (i : Fin 4096) (j : Fin 8192) :
    Cert.RefProof.result m' 0 (ix2 i j) = epi (∑ k : Fin 4096, bigX m' i k * bigW m' k j) (scale m') := by
  unfold Cert.RefProof.result
  exact ref_apply _ _ _ _ i j

/-- What the kernel writes at point `t`: the epilogue of the whole contraction, at its rows and columns. -/
theorem oB_apply (h : Cut m m') (c : Dev nD) (t : Fin 8) (a b : Fin 1024) :
    oB m c t.val (ix2 a b) = Cert.RefProof.result m' 0 (ix2 (crow c a) (ccol t b)) := by
  rw [result_apply]
  unfold oB
  rw [pay1_apply, acc3_whole (xB m) (wB m) (bigX m') (bigW m') t (cut_x m m' h) (fun d k b => cut_w m m' h d t k b) c a b,
    sxB_apply m c _ Cert.RefProof.i0, swB_apply m c _ Cert.RefProof.i0, (h c).2.2.1, (h c).2.2.2]
  rfl

/-- Block `c` of the reference's result, as contents of device `c`'s result array. -/
def outBlock (c : Dev nD) : Buf (Elt Ideal) ((c : Thread nD τ).loc main_v1) :=
  Layout.block ⟨2, ![1024, 8192]⟩ ⟨2, ![4096, 8192]⟩ 0 4 c (Cert.RefProof.result m' 0)

theorem outBlock_apply (c : Dev nD) (a : Fin 1024) (j : Fin 8192) :
    outBlock m' c (ix2 a j) = Cert.RefProof.result m' 0 (ix2 (crow c a) j) := by
  unfold outBlock
  rw [Layout.block_apply]
  refine congrArg (Cert.RefProof.result m' 0) ((eq_ix2 _).trans ((ix2_inj _ _ _ _).2 ⟨Fin.ext ?_, Fin.ext ?_⟩)) <;> rfl

/-- What point `t` writes back is block `t` of it. -/
theorem flushed_eq (h : Cut m m') (c : Dev nD) (t : Fin cfg0.N) :
    (dats m ρ 0 c).flushed 4 t = ((cfg0.win 4).blk t).view.read (Elt Ideal) (outBlock m' c) := by
  have ht : t.val < 8 := lt_of_lt_of_eq t.isLt N_0
  funext j
  obtain ⟨a, b, rfl⟩ : ∃ (a b : Fin 1024), j = ix2 a b := ⟨j 0, j 1, eq_ix2 j⟩
  rw [View.read_apply]
  refine Eq.trans (b := oB m c t.val (ix2 a b)) rfl ?_
  rw [oB_apply m m' h c ⟨t.val, ht⟩ a b, ← outBlock_apply]
  refine congrArg (outBlock m' c) (((eq_ix2 _).trans ((ix2_inj _ _ _ _).2 ⟨Fin.ext ?_, Fin.ext ?_⟩)).symm)
  · show win0_4.index t 0 * 1024 + 1 * a.val = a.val
    rw [(index4 t).1]; omega
  · show win0_4.index t 1 * 1024 + 1 * b.val = t.val * 1024 + b.val
    rw [(index4 t).2]; omega

/-- The eight blocks cover the array: device `c`'s result array ends at block `c` of the reference's result. -/
theorem final_eq (h : Cut m m') (c : Dev nD) : finalA m ρ c 4 = outBlock m' c :=
  (dats m ρ 0 c).arrAt_eq_of_cover 4 (outBlock m' c) (fun t _ => flushed_eq m ρ m' h c t) fun i => by
    have h0 : (i 0 : Nat) < 1024 := (i 0).isLt
    have h1 : (i 1 : Nat) < 8192 := (i 1).isLt
    obtain ⟨t, ht⟩ : ∃ t : Fin cfg0.N, t.val = (i 1 : Nat) / 1024 :=
      ⟨⟨(i 1 : Nat) / 1024, lt_of_lt_of_eq (by omega) N_0.symm⟩, rfl⟩
    refine ⟨t, flush0_4 _, ?_⟩
    show i ∈ ((View.whole main_v1).slice (win0_4.rect t)).set
    rw [View.set_slice_whole, Rect.mem_set_unit]
    intro a
    match a with
    | ⟨0, _⟩ => show win0_4.index t 0 * 1024 ≤ (i 0 : Nat) ∧ (i 0 : Nat) < win0_4.index t 0 * 1024 + 1024
                rw [(index4 t).1]; omega
    | ⟨1, _⟩ => show win0_4.index t 1 * 1024 ≤ (i 1 : Nat) ∧ (i 1 : Nat) < win0_4.index t 1 * 1024 + 1024
                rw [(index4 t).2, ht]; omega

/-- The kernel against the reference, over the extended reals. -/
theorem value : Cert.algebraic_KernelIdeal_ReferenceIdeal := fun m g m' g' _ h =>
  ⟨Cert.RefProof.result m' 0,
    (θ_run Cert.KernelIdeal.defs _ _).mono
      (fun _ hr c => ⟨(hr.1 c).1.trans (final_eq m g m' h c), (hr.1 c).2⟩) (run_read (F := Ideal) m g),
    (θ_run Cert.ReferenceIdeal.defs _ _).mono (fun _ hr => hr 0) (Cert.RefProof.run (F := Ideal) m' g')⟩

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- All five claims: the three frames, that the idealized kernel is the kernel, and that over the
    extended reals each device ends with its block of the reference's result. -/
theorem claim : Cert.Claim :=
  ⟨Cert.Kernel.Gen.facts, Cert.KernelIdeal.Gen.facts, Cert.ReferenceIdeal.Gen.facts,
    Cert.RingProof.frame_kernel, Cert.RingProof.frame_kernelIdeal,
    fun m ρ _ => Cert.ReferenceIdeal.Gen.frame m ρ, trivial, Cert.RingProof.value⟩

end Cert.Proof

end
